-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S2048x1024 : Shape := ⟨2, ![2048, 1024]⟩
abbrev S2x3x512x512 : Shape := ⟨4, ![2, 3, 512, 512]⟩
abbrev S2x3x128x512 : Shape := ⟨4, ![2, 3, 128, 512]⟩
abbrev S2x3 : Shape := ⟨2, ![2, 3]⟩
abbrev S_ : Shape := ⟨0, ![]⟩
abbrev S128x512 : Shape := ⟨2, ![128, 512]⟩
abbrev S128x1 : Shape := ⟨2, ![128, 1]⟩
abbrev S128x1024 : Shape := ⟨2, ![128, 1024]⟩
abbrev S1x512x1024 : Shape := ⟨3, ![1, 512, 1024]⟩
abbrev S512x1024 : Shape := ⟨2, ![512, 1024]⟩
abbrev S1x1 : Shape := ⟨2, ![1, 1]⟩
abbrev S1x1x512x512 : Shape := ⟨4, ![1, 1, 512, 512]⟩
abbrev S512x512 : Shape := ⟨2, ![512, 512]⟩
abbrev S1x1x128x512 : Shape := ⟨4, ![1, 1, 128, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S2x3x512x512, .f32⟩
  | .local _ .vmem, ⟨5, _⟩ => ⟨S2x3x128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_13 : BitVec 32 := 1#32
  let v22 : BitVec 32 := Scalar.muli v8 c1_i32_13
  let v23 : BitVec 32 := Scalar.addi c0_i32 v22
  v23.toNat
def k0_dev2 (d0 : Dev nD) : Nat :=
  let c0_i32_16 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_15 : BitVec 32 := 1#32
  let v24 : BitVec 32 := Scalar.muli v12 c1_i32_15
  let v25 : BitVec 32 := Scalar.addi c0_i32_16 v24
  v25.toNat
def k0_dev3 (d0 : Dev nD) : Nat :=
  let c0_i32_19 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_18 : BitVec 32 := 1#32
  let v26 : BitVec 32 := Scalar.muli v16 c1_i32_18
  let v27 : BitVec 32 := Scalar.addi c0_i32_19 v26
  v27.toNat
def k0_dev4 (d0 : Dev nD) : Nat :=
  let c0_i32_22 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_21 : BitVec 32 := 1#32
  let v28 : BitVec 32 := Scalar.muli v20 c1_i32_21
  let v29 : BitVec 32 := Scalar.addi c0_i32_22 v28
  v29.toNat
def k0_off1 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32 : BitVec 32 := 512#32
  let v30 : BitVec 32 := Scalar.muli v3 c512_i32
  let v31 : BitVec 32 := Scalar.addi v30 c0_i32_24
  let v32 : Index := Scalar.indexCast v31
  let c0 : Index := 0#32
  ![v32.toNat, 0]
def k0_off2 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32 : BitVec 32 := 512#32
  let v30 : BitVec 32 := Scalar.muli v3 c512_i32
  let v31 : BitVec 32 := Scalar.addi v30 c0_i32_24
  let v35 : Index := Scalar.indexCast v31
  let c0_25 : Index := 0#32
  ![v35.toNat, 0]
def k0_off3 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c512_i32 : BitVec 32 := 512#32
  let v30 : BitVec 32 := Scalar.muli v3 c512_i32
  let v31 : BitVec 32 := Scalar.addi v30 c0_i32_24
  let v87 : Index := Scalar.indexCast v31
  let c0_50 : Index := 0#32
  ![v87.toNat, 0]
def k0_off4 (d0 : Dev nD) (c0_i32_150 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v266 : BitVec 32 := Scalar.subi v3 c0_i32_150
  let c8_i32 : BitVec 32 := 8#32
  let v267 : BitVec 32 := Scalar.addi v266 c8_i32
  let c4_i32_151 : BitVec 32 := 4#32
  let v268 : BitVec 32 := Scalar.remsi v267 c4_i32_151
  let c512_i32_152 : BitVec 32 := 512#32
  let v269 : BitVec 32 := Scalar.muli v268 c512_i32_152
  let c0_i32_167 : BitVec 32 := 0#32
  ![v269.toNat, 0]
def k0_dev5 (d0 : Dev nD) : Nat :=
  let c0_i32_164 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_163 : BitVec 32 := 1#32
  let v274 : BitVec 32 := Scalar.muli v8 c1_i32_163
  let v275 : BitVec 32 := Scalar.addi c0_i32_164 v274
  v275.toNat
def k0_off5 (d0 : Dev nD) (c0_i32_153 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v270 : BitVec 32 := Scalar.addi v3 c0_i32_153
  let c8_i32_154 : BitVec 32 := 8#32
  let v271 : BitVec 32 := Scalar.addi v270 c8_i32_154
  let c4_i32_155 : BitVec 32 := 4#32
  let v272 : BitVec 32 := Scalar.remsi v271 c4_i32_155
  let c512_i32_156 : BitVec 32 := 512#32
  let v273 : BitVec 32 := Scalar.muli v272 c512_i32_156
  let c512_i32_178 : BitVec 32 := 512#32
  ![v273.toNat, 512]
def k0_dev6 (d0 : Dev nD) : Nat :=
  let c0_i32_175 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_174 : BitVec 32 := 1#32
  let v283 : BitVec 32 := Scalar.muli v12 c1_i32_174
  let v284 : BitVec 32 := Scalar.addi c0_i32_175 v283
  v284.toNat
def k0_off6 (d0 : Dev nD) (c1_i32_179 : BitVec 32) (c0_i32_183 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v292 : BitVec 32 := Scalar.addi v3 c1_i32_179
  let c8_i32_180 : BitVec 32 := 8#32
  let v293 : BitVec 32 := Scalar.addi v292 c8_i32_180
  let c4_i32_181 : BitVec 32 := 4#32
  let v294 : BitVec 32 := Scalar.remsi v293 c4_i32_181
  let c512_i32_182 : BitVec 32 := 512#32
  let v295 : BitVec 32 := Scalar.muli v294 c512_i32_182
  let v296 : BitVec 32 := Scalar.addi v295 c0_i32_183
  let v297 : Index := Scalar.indexCast v296
  let c0_184 : Index := 0#32
  ![v297.toNat, 0]
def k0_off7 (d0 : Dev nD) (c1_i32_179 : BitVec 32) (c0_i32_183 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v292 : BitVec 32 := Scalar.addi v3 c1_i32_179
  let c8_i32_180 : BitVec 32 := 8#32
  let v293 : BitVec 32 := Scalar.addi v292 c8_i32_180
  let c4_i32_181 : BitVec 32 := 4#32
  let v294 : BitVec 32 := Scalar.remsi v293 c4_i32_181
  let c512_i32_182 : BitVec 32 := 512#32
  let v295 : BitVec 32 := Scalar.muli v294 c512_i32_182
  let v296 : BitVec 32 := Scalar.addi v295 c0_i32_183
  let v300 : Index := Scalar.indexCast v296
  let c0_185 : Index := 0#32
  ![v300.toNat, 0]
def k0_off8 (d0 : Dev nD) (c1_i32_179 : BitVec 32) (c0_i32_183 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v292 : BitVec 32 := Scalar.addi v3 c1_i32_179
  let c8_i32_180 : BitVec 32 := 8#32
  let v293 : BitVec 32 := Scalar.addi v292 c8_i32_180
  let c4_i32_181 : BitVec 32 := 4#32
  let v294 : BitVec 32 := Scalar.remsi v293 c4_i32_181
  let c512_i32_182 : BitVec 32 := 512#32
  let v295 : BitVec 32 := Scalar.muli v294 c512_i32_182
  let v296 : BitVec 32 := Scalar.addi v295 c0_i32_183
  let v352 : Index := Scalar.indexCast v296
  let c0_215 : Index := 0#32
  ![v352.toNat, 0]
def k0_off9 (d0 : Dev nD) (c0_i32_499 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v794 : BitVec 32 := Scalar.subi v3 c0_i32_499
  let c1_i32_500 : BitVec 32 := 1#32
  let v795 : BitVec 32 := Scalar.subi v794 c1_i32_500
  let c8_i32_501 : BitVec 32 := 8#32
  let v796 : BitVec 32 := Scalar.addi v795 c8_i32_501
  let c4_i32_502 : BitVec 32 := 4#32
  let v797 : BitVec 32 := Scalar.remsi v796 c4_i32_502
  let c512_i32_503 : BitVec 32 := 512#32
  let v798 : BitVec 32 := Scalar.muli v797 c512_i32_503
  let v799 : Index := Scalar.indexCast v798
  let c0_504 : Index := 0#32
  ![v799.toNat, 0]
def k0_off10 (d0 : Dev nD) (c0_i32_510 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v807 : BitVec 32 := Scalar.addi v3 c0_i32_510
  let c1_i32_511 : BitVec 32 := 1#32
  let v808 : BitVec 32 := Scalar.addi v807 c1_i32_511
  let c8_i32_512 : BitVec 32 := 8#32
  let v809 : BitVec 32 := Scalar.addi v808 c8_i32_512
  let c4_i32_513 : BitVec 32 := 4#32
  let v810 : BitVec 32 := Scalar.remsi v809 c4_i32_513
  let c512_i32_514 : BitVec 32 := 512#32
  let v811 : BitVec 32 := Scalar.muli v810 c512_i32_514
  let v812 : Index := Scalar.indexCast v811
  let c512 : Index := 512#32
  ![v812.toNat, 512]
def k0_dev7 (d0 : Dev nD) : Nat :=
  let c0_i32_535 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_534 : BitVec 32 := 1#32
  let v828 : BitVec 32 := Scalar.muli v8 c1_i32_534
  let v829 : BitVec 32 := Scalar.addi c0_i32_535 v828
  v829.toNat
def k0_dev8 (d0 : Dev nD) : Nat :=
  let c0_i32_546 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_545 : BitVec 32 := 1#32
  let v837 : BitVec 32 := Scalar.muli v12 c1_i32_545
  let v838 : BitVec 32 := Scalar.addi c0_i32_546 v837
  v838.toNat
def k0_dev9 (d0 : Dev nD) : Nat :=
  let c0_i32_768 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_767 : BitVec 32 := 1#32
  let v1143 : BitVec 32 := Scalar.muli v8 c1_i32_767
  let v1144 : BitVec 32 := Scalar.addi c0_i32_768 v1143
  v1144.toNat
def k0_dev10 (d0 : Dev nD) : Nat :=
  let c0_i32_779 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_778 : BitVec 32 := 1#32
  let v1152 : BitVec 32 := Scalar.muli v12 c1_i32_778
  let v1153 : BitVec 32 := Scalar.addi c0_i32_779 v1152
  v1153.toNat
def k0_off11 (d0 : Dev nD) (c0_i32_854 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_847 : BitVec 32 := 1#32
  let v1211 : BitVec 32 := Scalar.addi v3 c1_i32_847
  let c8_i32_848 : BitVec 32 := 8#32
  let v1212 : BitVec 32 := Scalar.addi v1211 c8_i32_848
  let c4_i32_849 : BitVec 32 := 4#32
  let v1213 : BitVec 32 := Scalar.remsi v1212 c4_i32_849
  let c512_i32_853 : BitVec 32 := 512#32
  let v1217 : BitVec 32 := Scalar.muli v1213 c512_i32_853
  let c4_i32_0 : BitVec 32 := 4#32
  let v4 : BitVec 32 := Scalar.divsi v2 c4_i32_0
  let v1218 : BitVec 32 := Scalar.subi v4 c0_i32_854
  let c8_i32_855 : BitVec 32 := 8#32
  let v1219 : BitVec 32 := Scalar.addi v1218 c8_i32_855
  let c4_i32_856 : BitVec 32 := 4#32
  let v1220 : BitVec 32 := Scalar.remsi v1219 c4_i32_856
  let c128_i32_857 : BitVec 32 := 128#32
  let v1221 : BitVec 32 := Scalar.muli v1220 c128_i32_857
  let v1222 : BitVec 32 := Scalar.addi v1217 v1221
  let c0_i32_873 : BitVec 32 := 0#32
  ![v1222.toNat, 0]
def k0_dev11 (d0 : Dev nD) : Nat :=
  let c0_i32_870 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_869 : BitVec 32 := 1#32
  let v1229 : BitVec 32 := Scalar.muli v16 c1_i32_869
  let v1230 : BitVec 32 := Scalar.addi c0_i32_870 v1229
  v1230.toNat
def k0_off12 (d0 : Dev nD) (c0_i32_859 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_850 : BitVec 32 := 3#32
  let v1214 : BitVec 32 := Scalar.addi v3 c3_i32_850
  let c8_i32_851 : BitVec 32 := 8#32
  let v1215 : BitVec 32 := Scalar.addi v1214 c8_i32_851
  let c4_i32_852 : BitVec 32 := 4#32
  let v1216 : BitVec 32 := Scalar.remsi v1215 c4_i32_852
  let c512_i32_858 : BitVec 32 := 512#32
  let v1223 : BitVec 32 := Scalar.muli v1216 c512_i32_858
  let c4_i32_0 : BitVec 32 := 4#32
  let v4 : BitVec 32 := Scalar.divsi v2 c4_i32_0
  let v1224 : BitVec 32 := Scalar.addi v4 c0_i32_859
  let c8_i32_860 : BitVec 32 := 8#32
  let v1225 : BitVec 32 := Scalar.addi v1224 c8_i32_860
  let c4_i32_861 : BitVec 32 := 4#32
  let v1226 : BitVec 32 := Scalar.remsi v1225 c4_i32_861
  let c128_i32_862 : BitVec 32 := 128#32
  let v1227 : BitVec 32 := Scalar.muli v1226 c128_i32_862
  let v1228 : BitVec 32 := Scalar.addi v1223 v1227
  let c512_i32_884 : BitVec 32 := 512#32
  ![v1228.toNat, 512]
def k0_dev12 (d0 : Dev nD) : Nat :=
  let c0_i32_881 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_880 : BitVec 32 := 1#32
  let v1238 : BitVec 32 := Scalar.muli v20 c1_i32_880
  let v1239 : BitVec 32 := Scalar.addi c0_i32_881 v1238
  v1239.toNat
def k0_off13 (d0 : Dev nD) (c0_i32_928 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_847 : BitVec 32 := 1#32
  let v1211 : BitVec 32 := Scalar.addi v3 c1_i32_847
  let c8_i32_848 : BitVec 32 := 8#32
  let v1212 : BitVec 32 := Scalar.addi v1211 c8_i32_848
  let c4_i32_849 : BitVec 32 := 4#32
  let v1213 : BitVec 32 := Scalar.remsi v1212 c4_i32_849
  let c512_i32_927 : BitVec 32 := 512#32
  let v1271 : BitVec 32 := Scalar.muli v1213 c512_i32_927
  let c4_i32_0 : BitVec 32 := 4#32
  let v4 : BitVec 32 := Scalar.divsi v2 c4_i32_0
  let v1272 : BitVec 32 := Scalar.subi v4 c0_i32_928
  let c1_i32_929 : BitVec 32 := 1#32
  let v1273 : BitVec 32 := Scalar.subi v1272 c1_i32_929
  let c8_i32_930 : BitVec 32 := 8#32
  let v1274 : BitVec 32 := Scalar.addi v1273 c8_i32_930
  let c4_i32_931 : BitVec 32 := 4#32
  let v1275 : BitVec 32 := Scalar.remsi v1274 c4_i32_931
  let c128_i32_932 : BitVec 32 := 128#32
  let v1276 : BitVec 32 := Scalar.muli v1275 c128_i32_932
  let v1277 : BitVec 32 := Scalar.addi v1271 v1276
  let v1278 : Index := Scalar.indexCast v1277
  let c0_933 : Index := 0#32
  ![v1278.toNat, 0]
def k0_off14 (d0 : Dev nD) (c0_i32_940 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_850 : BitVec 32 := 3#32
  let v1214 : BitVec 32 := Scalar.addi v3 c3_i32_850
  let c8_i32_851 : BitVec 32 := 8#32
  let v1215 : BitVec 32 := Scalar.addi v1214 c8_i32_851
  let c4_i32_852 : BitVec 32 := 4#32
  let v1216 : BitVec 32 := Scalar.remsi v1215 c4_i32_852
  let c512_i32_939 : BitVec 32 := 512#32
  let v1286 : BitVec 32 := Scalar.muli v1216 c512_i32_939
  let c4_i32_0 : BitVec 32 := 4#32
  let v4 : BitVec 32 := Scalar.divsi v2 c4_i32_0
  let v1287 : BitVec 32 := Scalar.addi v4 c0_i32_940
  let c1_i32_941 : BitVec 32 := 1#32
  let v1288 : BitVec 32 := Scalar.addi v1287 c1_i32_941
  let c8_i32_942 : BitVec 32 := 8#32
  let v1289 : BitVec 32 := Scalar.addi v1288 c8_i32_942
  let c4_i32_943 : BitVec 32 := 4#32
  let v1290 : BitVec 32 := Scalar.remsi v1289 c4_i32_943
  let c128_i32_944 : BitVec 32 := 128#32
  let v1291 : BitVec 32 := Scalar.muli v1290 c128_i32_944
  let v1292 : BitVec 32 := Scalar.addi v1286 v1291
  let v1293 : Index := Scalar.indexCast v1292
  let c512_945 : Index := 512#32
  ![v1293.toNat, 512]
def k0_dev13 (d0 : Dev nD) : Nat :=
  let c0_i32_968 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_967 : BitVec 32 := 1#32
  let v1313 : BitVec 32 := Scalar.muli v16 c1_i32_967
  let v1314 : BitVec 32 := Scalar.addi c0_i32_968 v1313
  v1314.toNat
def k0_dev14 (d0 : Dev nD) : Nat :=
  let c0_i32_979 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_978 : BitVec 32 := 1#32
  let v1322 : BitVec 32 := Scalar.muli v20 c1_i32_978
  let v1323 : BitVec 32 := Scalar.addi c0_i32_979 v1322
  v1323.toNat
def k0_dev15 (d0 : Dev nD) : Nat :=
  let c0_i32_1066 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_1065 : BitVec 32 := 1#32
  let v1397 : BitVec 32 := Scalar.muli v16 c1_i32_1065
  let v1398 : BitVec 32 := Scalar.addi c0_i32_1066 v1397
  v1398.toNat
def k0_dev16 (d0 : Dev nD) : Nat :=
  let c0_i32_1077 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_1076 : BitVec 32 := 1#32
  let v1406 : BitVec 32 := Scalar.muli v20 c1_i32_1076
  let v1407 : BitVec 32 := Scalar.addi c0_i32_1077 v1406
  v1407.toNat
def k0_off15 (d0 : Dev nD) (c0_i32_1149 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_847 : BitVec 32 := 1#32
  let v1211 : BitVec 32 := Scalar.addi v3 c1_i32_847
  let c8_i32_848 : BitVec 32 := 8#32
  let v1212 : BitVec 32 := Scalar.addi v1211 c8_i32_848
  let c4_i32_849 : BitVec 32 := 4#32
  let v1213 : BitVec 32 := Scalar.remsi v1212 c4_i32_849
  let c512_i32_1147 : BitVec 32 := 512#32
  let v1469 : BitVec 32 := Scalar.muli v1213 c512_i32_1147
  let c4_i32_0 : BitVec 32 := 4#32
  let v4 : BitVec 32 := Scalar.divsi v2 c4_i32_0
  let c1_i32_1148 : BitVec 32 := 1#32
  let v1470 : BitVec 32 := Scalar.addi v4 c1_i32_1148
  let v1471 : BitVec 32 := Scalar.subi v1470 c0_i32_1149
  let c8_i32_1150 : BitVec 32 := 8#32
  let v1472 : BitVec 32 := Scalar.addi v1471 c8_i32_1150
  let c4_i32_1151 : BitVec 32 := 4#32
  let v1473 : BitVec 32 := Scalar.remsi v1472 c4_i32_1151
  let c128_i32_1152 : BitVec 32 := 128#32
  let v1474 : BitVec 32 := Scalar.muli v1473 c128_i32_1152
  let v1475 : BitVec 32 := Scalar.addi v1469 v1474
  let c0_i32_1165 : BitVec 32 := 0#32
  ![v1475.toNat, 0]
def k0_dev17 (d0 : Dev nD) : Nat :=
  let c0_i32_1164 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_1163 : BitVec 32 := 1#32
  let v1483 : BitVec 32 := Scalar.muli v16 c1_i32_1163
  let v1484 : BitVec 32 := Scalar.addi c0_i32_1164 v1483
  v1484.toNat
def k0_off16 (d0 : Dev nD) (c0_i32_1155 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_850 : BitVec 32 := 3#32
  let v1214 : BitVec 32 := Scalar.addi v3 c3_i32_850
  let c8_i32_851 : BitVec 32 := 8#32
  let v1215 : BitVec 32 := Scalar.addi v1214 c8_i32_851
  let c4_i32_852 : BitVec 32 := 4#32
  let v1216 : BitVec 32 := Scalar.remsi v1215 c4_i32_852
  let c512_i32_1153 : BitVec 32 := 512#32
  let v1476 : BitVec 32 := Scalar.muli v1216 c512_i32_1153
  let c4_i32_0 : BitVec 32 := 4#32
  let v4 : BitVec 32 := Scalar.divsi v2 c4_i32_0
  let c1_i32_1154 : BitVec 32 := 1#32
  let v1477 : BitVec 32 := Scalar.subi v4 c1_i32_1154
  let v1478 : BitVec 32 := Scalar.addi v1477 c0_i32_1155
  let c8_i32_1156 : BitVec 32 := 8#32
  let v1479 : BitVec 32 := Scalar.addi v1478 c8_i32_1156
  let c4_i32_1157 : BitVec 32 := 4#32
  let v1480 : BitVec 32 := Scalar.remsi v1479 c4_i32_1157
  let c128_i32_1158 : BitVec 32 := 128#32
  let v1481 : BitVec 32 := Scalar.muli v1480 c128_i32_1158
  let v1482 : BitVec 32 := Scalar.addi v1476 v1481
  let c512_i32_1173 : BitVec 32 := 512#32
  ![v1482.toNat, 512]
def k0_dev18 (d0 : Dev nD) : Nat :=
  let c0_i32_1172 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_1171 : BitVec 32 := 1#32
  let v1491 : BitVec 32 := Scalar.muli v20 c1_i32_1171
  let v1492 : BitVec 32 := Scalar.addi c0_i32_1172 v1491
  v1492.toNat
def k0_dev19 (d0 : Dev nD) : Nat :=
  let c0_i32_1222 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_1221 : BitVec 32 := 1#32
  let v1533 : BitVec 32 := Scalar.muli v16 c1_i32_1221
  let v1534 : BitVec 32 := Scalar.addi c0_i32_1222 v1533
  v1534.toNat
def k0_dev20 (d0 : Dev nD) : Nat :=
  let c0_i32_1230 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_1229 : BitVec 32 := 1#32
  let v1541 : BitVec 32 := Scalar.muli v20 c1_i32_1229
  let v1542 : BitVec 32 := Scalar.addi c0_i32_1230 v1541
  v1542.toNat
def k0_dev21 (d0 : Dev nD) : Nat :=
  let c0_i32_1280 : BitVec 32 := 0#32
  let c4_i32_8 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_6 : BitVec 32 := 1#32
  let v13 : BitVec 32 := Scalar.addi v4 c1_i32_6
  let c4_i32_7 : BitVec 32 := 4#32
  let v14 : BitVec 32 := Scalar.remsi v13 c4_i32_7
  let v15 : BitVec 32 := Scalar.muli c4_i32_8 v14
  let c4_i32 : BitVec 32 := 4#32
  let v3 : BitVec 32 := Scalar.remsi v2 c4_i32
  let v16 : BitVec 32 := Scalar.addi v15 v3
  let c1_i32_1279 : BitVec 32 := 1#32
  let v1583 : BitVec 32 := Scalar.muli v16 c1_i32_1279
  let v1584 : BitVec 32 := Scalar.addi c0_i32_1280 v1583
  v1584.toNat
def k0_dev22 (d0 : Dev nD) : Nat :=
  let c0_i32_1288 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_9 : BitVec 32 := 3#32
  let v17 : BitVec 32 := Scalar.addi v4 c3_i32_9
  let c4_i32_10 : BitVec 32 := 4#32
  let v18 : BitVec 32 := Scalar.remsi v17 c4_i32_10
  let v19 : BitVec 32 := Scalar.muli c4_i32_11 v18
  let c4_i32 : BitVec 32 := 4#32
  let v3 : BitVec 32 := Scalar.remsi v2 c4_i32
  let v20 : BitVec 32 := Scalar.addi v19 v3
  let c1_i32_1287 : BitVec 32 := 1#32
  let v1591 : BitVec 32 := Scalar.muli v20 c1_i32_1287
  let v1592 : BitVec 32 := Scalar.addi c0_i32_1288 v1591
  v1592.toNat
def k0_off17 (d0 : Dev nD) (c0_i32_1322 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_1321 : BitVec 32 := 1#32
  let v1619 : BitVec 32 := Scalar.addi v3 c1_i32_1321
  let v1620 : BitVec 32 := Scalar.subi v1619 c0_i32_1322
  let c8_i32_1323 : BitVec 32 := 8#32
  let v1621 : BitVec 32 := Scalar.addi v1620 c8_i32_1323
  let c4_i32_1324 : BitVec 32 := 4#32
  let v1622 : BitVec 32 := Scalar.remsi v1621 c4_i32_1324
  let c512_i32_1325 : BitVec 32 := 512#32
  let v1623 : BitVec 32 := Scalar.muli v1622 c512_i32_1325
  let c0_i32_1337 : BitVec 32 := 0#32
  ![v1623.toNat, 0]
def k0_dev23 (d0 : Dev nD) : Nat :=
  let c0_i32_1336 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1335 : BitVec 32 := 1#32
  let v1629 : BitVec 32 := Scalar.muli v8 c1_i32_1335
  let v1630 : BitVec 32 := Scalar.addi c0_i32_1336 v1629
  v1630.toNat
def k0_off18 (d0 : Dev nD) (c0_i32_1327 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c3_i32_1326 : BitVec 32 := 3#32
  let v1624 : BitVec 32 := Scalar.addi v3 c3_i32_1326
  let v1625 : BitVec 32 := Scalar.addi v1624 c0_i32_1327
  let c8_i32_1328 : BitVec 32 := 8#32
  let v1626 : BitVec 32 := Scalar.addi v1625 c8_i32_1328
  let c4_i32_1329 : BitVec 32 := 4#32
  let v1627 : BitVec 32 := Scalar.remsi v1626 c4_i32_1329
  let c512_i32_1330 : BitVec 32 := 512#32
  let v1628 : BitVec 32 := Scalar.muli v1627 c512_i32_1330
  let c512_i32_1345 : BitVec 32 := 512#32
  ![v1628.toNat, 512]
def k0_dev24 (d0 : Dev nD) : Nat :=
  let c0_i32_1344 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_1343 : BitVec 32 := 1#32
  let v1637 : BitVec 32 := Scalar.muli v12 c1_i32_1343
  let v1638 : BitVec 32 := Scalar.addi c0_i32_1344 v1637
  v1638.toNat
def k0_dev25 (d0 : Dev nD) : Nat :=
  let c0_i32_1392 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1391 : BitVec 32 := 1#32
  let v1675 : BitVec 32 := Scalar.muli v8 c1_i32_1391
  let v1676 : BitVec 32 := Scalar.addi c0_i32_1392 v1675
  v1676.toNat
def k0_dev26 (d0 : Dev nD) : Nat :=
  let c0_i32_1400 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_1399 : BitVec 32 := 1#32
  let v1683 : BitVec 32 := Scalar.muli v12 c1_i32_1399
  let v1684 : BitVec 32 := Scalar.addi c0_i32_1400 v1683
  v1684.toNat
def k0_dev27 (d0 : Dev nD) : Nat :=
  let c0_i32_1448 : BitVec 32 := 0#32
  let c4_i32_1 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v5 : BitVec 32 := Scalar.muli c4_i32_1 v4
  let c4_i32 : BitVec 32 := 4#32
  let v3 : BitVec 32 := Scalar.remsi v2 c4_i32
  let c1_i32_2 : BitVec 32 := 1#32
  let v6 : BitVec 32 := Scalar.addi v3 c1_i32_2
  let c4_i32_3 : BitVec 32 := 4#32
  let v7 : BitVec 32 := Scalar.remsi v6 c4_i32_3
  let v8 : BitVec 32 := Scalar.addi v5 v7
  let c1_i32_1447 : BitVec 32 := 1#32
  let v1721 : BitVec 32 := Scalar.muli v8 c1_i32_1447
  let v1722 : BitVec 32 := Scalar.addi c0_i32_1448 v1721
  v1722.toNat
def k0_dev28 (d0 : Dev nD) : Nat :=
  let c0_i32_1456 : BitVec 32 := 0#32
  let c4_i32_4 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v9 : BitVec 32 := Scalar.muli c4_i32_4 v4
  let c4_i32 : BitVec 32 := 4#32
  let v3 : BitVec 32 := Scalar.remsi v2 c4_i32
  let c3_i32 : BitVec 32 := 3#32
  let v10 : BitVec 32 := Scalar.addi v3 c3_i32
  let c4_i32_5 : BitVec 32 := 4#32
  let v11 : BitVec 32 := Scalar.remsi v10 c4_i32_5
  let v12 : BitVec 32 := Scalar.addi v9 v11
  let c1_i32_1455 : BitVec 32 := 1#32
  let v1729 : BitVec 32 := Scalar.muli v12 c1_i32_1455
  let v1730 : BitVec 32 := Scalar.addi c0_i32_1456 v1729
  v1730.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x512x1024, .f32⟩
  | .hbm, ⟨22, _⟩ => ⟨S2048x1024, .f32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S2048x1, .i1⟩
  | .hbm, ⟨31, _⟩ => ⟨S_, .f32⟩
  | .hbm, ⟨32, _⟩ => ⟨S_, .f32⟩
  | .hbm, ⟨33, _⟩ => ⟨S2048x1024, .i1⟩
  | .hbm, ⟨34, _⟩ => ⟨S2048x1024, .f32⟩
  | .hbm, ⟨35, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Proof.KernelIdeal.Prog.lean ====
/-
The kernel's body as a sequence of a few kinds of steps.

One device of the 4 x 4 torus computes its contribution to every row in chunks of 128 rows, then takes part in a
reduce-scatter along the plane ring, one along the other ring, and the two all-gathers back. Every operation of the
printed body belongs to one of four kinds of step: a chunk of rows computed and stored, a remote copy started, a copy
waited for, and a received piece added. This file names the steps, writes the body with them, and proves that the printed body is
that program.
-/
module

public import proofs.«01_k».proof.Proof.Gen.KernelIdeal.Skeleton

@[expose] public section

set_option maxRecDepth 65536

noncomputable section

namespace Cert.KernelIdeal.Moe

open Cert.KernelIdeal Cert.KernelIdeal.Gen
open Idealize.ShloMosaic Idealize.ShloMosaic.TcCoe Idealize.SL.Sem

variable {F : FTy → Type} [FloatOps F]

/-! ## The buffers and the semaphores -/

/-- The token rows, the expert ids, the device's four experts, the result and the two landing buffers. -/
abbrev xM : Memref sig .tc .vmem S2048x512 .f32 := Memref.whole cc0_stg0_0
abbrev idxM : Memref sig .tc .vmem S2048x1 .i32 := Memref.whole cc0_stg1_0
abbrev wM : Memref sig .tc .vmem S4x512x1024 .f32 := Memref.whole cc0_stg2_0
abbrev outM : Memref sig .tc .vmem S2048x1024 .f32 := Memref.whole cc0_stg3_0
abbrev bufP : Memref sig .tc .vmem S2x3x512x512 .f32 := Memref.whole cc0_scratch0
abbrev bufZ : Memref sig .tc .vmem S2x3x128x512 .f32 := Memref.whole cc0_scratch1

/-- The runtime's barrier semaphore. -/
abbrev barS : Sem sig := (SemArray.scalar (sig.barrier 0 rfl) : Sems sig S_).sem

theorem sendS_lt (p : Fin 4) (d : Fin 2) (s : Fin 3) : 4 + 12 * p.val + 3 * d.val + s.val < 52 := by omega
theorem recvS_lt (p : Fin 4) (d : Fin 2) (s : Fin 3) : 10 + 12 * p.val + 3 * d.val + s.val < 52 := by omega

/-- The semaphore that the departure, resp. the arrival, of phase `p`'s copy `s` in direction `d` credits. -/
def sendS (p : Fin 4) (d : Fin 2) (s : Fin 3) : DmaSem sig := ⟨4 + 12 * p.val + 3 * d.val + s.val, sendS_lt p d s⟩
def recvS (p : Fin 4) (d : Fin 2) (s : Fin 3) : DmaSem sig := ⟨10 + 12 * p.val + 3 * d.val + s.val, recvS_lt p d s⟩

/-! ## Pieces of the result and slots of the landing buffers -/

/-- The rectangle of a plane-ring piece, resp. of a piece of the other ring, at an offset. -/
abbrev rct0 (o : Fin 2 → ℕ) (h : ∀ a, o a + S512x512.size a ≤ S2048x1024.size a) : Rect S2048x1024 := Rect.unit (s := S2048x1024) o S512x512.size h
abbrev rct1 (o : Fin 2 → ℕ) (h : ∀ a, o a + S128x512.size a ≤ S2048x1024.size a) : Rect S2048x1024 := Rect.unit (s := S2048x1024) o S128x512.size h

/-- The piece of the result there. -/
abbrev pc0 (o : Fin 2 → ℕ) (h : ∀ a, o a + S512x512.size a ≤ S2048x1024.size a) : Memref sig .tc .vmem S512x512 .f32 :=
  outM.slice (rct0 o h) (fun _ => rfl)
abbrev pc1 (o : Fin 2 → ℕ) (h : ∀ a, o a + S128x512.size a ≤ S2048x1024.size a) : Memref sig .tc .vmem S128x512 .f32 :=
  outM.slice (rct1 o h) (fun _ => rfl)

theorem srect0_inb (d : Fin 2) (s : Fin 3) : ∀ a, (![d.val, s.val, 0, 0] : Fin 4 → ℕ) a + S1x1x512x512.size a ≤ S2x3x512x512.size a := by
  revert d s; decide
theorem srect1_inb (d : Fin 2) (s : Fin 3) : ∀ a, (![d.val, s.val, 0, 0] : Fin 4 → ℕ) a + S1x1x128x512.size a ≤ S2x3x128x512.size a := by
  revert d s; decide

/-- The rectangle of slot `(d, s)` of a landing buffer. -/
abbrev srect0 (d : Fin 2) (s : Fin 3) : Rect S2x3x512x512 := Rect.unit (s := S2x3x512x512) ![d.val, s.val, 0, 0] S1x1x512x512.size (srect0_inb d s)
abbrev srect1 (d : Fin 2) (s : Fin 3) : Rect S2x3x128x512 := Rect.unit (s := S2x3x128x512) ![d.val, s.val, 0, 0] S1x1x128x512.size (srect1_inb d s)

/-- Slot `(d, s)`. -/
abbrev slot0 (d : Fin 2) (s : Fin 3) : Memref sig .tc .vmem S512x512 .f32 :=
  (bufP.slice (srect0 d s) (fun _ => rfl)).squeeze S512x512 squeezes_S1x1x512x512_S512x512
abbrev slot1 (d : Fin 2) (s : Fin 3) : Memref sig .tc .vmem S128x512 .f32 :=
  (bufZ.slice (srect1 d s) (fun _ => rfl)).squeeze S128x512 squeezes_S1x1x128x512_S128x512

/-! ## The values computed -/

/-- One expert's share of a chunk: the chunk's rows routed to expert `e` of the device numbered `w`, the other rows
    zero, times the expert's matrix. -/
def term (w : BitVec 32) (x : FVec F S128x512 .f32) (i : IVec S128x1 32) (e : BitVec 32) (we : Vec F S1x512x1024 .f32) : FVec F S128x1024 .f32 :=
  matmul dot_S128x512_S512x1024_S128x1024_1_0_0_1_n_n none
    (select (broadcastTo S128x512 (shapeCast S128x1 (cmpi .eq i (broadcast S128x1 (Scalar.addi (Scalar.muli w 4#32) e))) shapeCasts_S128x1_S128x1) broadcasts_S128x1_S128x512)
      x (broadcast S128x512 (Scalar.ofBits .f32 0x00000000#32)))
    (shapeCast S512x1024 we shapeCasts_S1x512x1024_S512x1024) (constant S128x1024 .f32 0x00000000#32)

/-- A chunk's value: the four experts' shares added in order to zero. -/
def chunkVal (w : BitVec 32) (x : Vec F S128x512 .f32) (i : Vec F S128x1 .i32) (w0 w1 w2 w3 : Vec F S1x512x1024 .f32) : FVec F S128x1024 .f32 :=
  let x' := shapeCast S128x512 x shapeCasts_S128x512_S128x512
  let i' := shapeCast S128x1 i shapeCasts_S128x1_S128x1
  addf (addf (addf (addf (broadcast S128x1024 (Scalar.ofBits .f32 0x00000000#32)) (term w x' i' 0#32 w0)) (term w x' i' 1#32 w1)) (term w x' i' 2#32 w2)) (term w x' i' 3#32 w3)

/-- The word the kernel takes the device's number from. -/
def devW (c : Dev nD) : BitVec 32 := Scalar.remsi (Scalar.divsi (Dev.word c) 1#32) 16#32

/-! ## The steps -/

/-- The body's programs. -/
abbrev Pg (F : FTy → Type) [FloatOps F] : Type 1 := Prog (TpuEff nD τ sig (Elt F) Λ₀ .tc) PUnit

/-- A load of expert `e`'s matrix. -/
abbrev wRect (e : Fin 4) (h : ∀ a, (![e.val, 0, 0] : Fin 3 → ℕ) a + S1x512x1024.size a ≤ S4x512x1024.size a) : Rect S4x512x1024 :=
  Rect.unit (s := S4x512x1024) ![e.val, 0, 0] S1x512x1024.size h

theorem wRect_inb (e : Fin 4) : ∀ a, (![e.val, 0, 0] : Fin 3 → ℕ) a + S1x512x1024.size a ≤ S4x512x1024.size a := by revert e; decide

/-- One chunk: load its rows, their ids and the four matrices, and store the value. -/
def chunk (w : BitVec 32) (ox oi oo : Fin 2 → ℕ) (hx : ∀ a, ox a + S128x512.size a ≤ S2048x512.size a)
    (hi : ∀ a, oi a + S128x1.size a ≤ S2048x1.size a) (ho : ∀ a, oo a + S128x1024.size a ≤ S2048x1024.size a) (k : Pg F) : Pg F :=
  .op (.load xM (Rect.unit (s := S2048x512) ox S128x512.size hx).toLoadRect (View.loadsAt_vmem h_S128x512)) fun x =>
  .op (.load idxM (Rect.unit (s := S2048x1) oi S128x1.size hi).toLoadRect (View.loadsAt_vmem h_S128x1)) fun i =>
  .op (.load wM (wRect 0 (wRect_inb 0)).toLoadRect (View.loadsAt_vmem h_S1x512x1024)) fun w0 =>
  .op (.load wM (wRect 1 (wRect_inb 1)).toLoadRect (View.loadsAt_vmem h_S1x512x1024)) fun w1 =>
  .op (.load wM (wRect 2 (wRect_inb 2)).toLoadRect (View.loadsAt_vmem h_S1x512x1024)) fun w2 =>
  .op (.load wM (wRect 3 (wRect_inb 3)).toLoadRect (View.loadsAt_vmem h_S1x512x1024)) fun w3 =>
  .op (.load outM (Rect.unit (s := S2048x1024) oo S128x1024.size ho).toLoadRect (View.loadsAt_vmem h_S128x1024)) fun _ =>
  .op (.store outM (Rect.unit (s := S2048x1024) oo S128x1024.size ho) (chunkVal w x i w0 w1 w2 w3) Finset.univ
    (View.stores_vmem_bits_univ h_S128x1024 rfl) (.inl rfl)) fun _ => k

/-- Start a copy of `src` into `dst` of device `n`. -/
def start {sh : Shape} (p : Fin 4) (d : Fin 2) (s : Fin 3) (n : Dev nD) (src dst : Memref sig .tc .vmem sh .f32)
    (h₁ : src.view.WordExact) (h₂ : dst.view.WordExact) (k : Pg F) : Pg F :=
  .op (.enqueueDma src (.remote (Dev.tc n) dst (.dma (sendS p d s))) (.dma (recvS p d s)) h₁ h₂ ⟨⟨rfl, Or.inl rfl⟩, trivial⟩) fun _ => k

/-- Wait for the departure, then for the arrival, of the copy between `src` and `dst`. -/
def await {sh : Shape} (p : Fin 4) (d : Fin 2) (s : Fin 3) (src dst : Memref sig .tc .vmem sh .f32)
    (h₁ : src.view.WordExact) (h₂ : dst.view.WordExact) (k : Pg F) : Pg F :=
  .op (.waitDma2 (sendS p d s) dst src h₂ h₁) fun _ => .op (.waitDma2 (recvS p d s) src dst h₁ h₂) fun _ => k

/-- Add slot `(d, s)` to a piece of the result. -/
def accum0 (d : Fin 2) (s : Fin 3) (o : Fin 2 → ℕ) (h : ∀ a, o a + S512x512.size a ≤ S2048x1024.size a) (k : Pg F) : Pg F :=
  .op (.load outM (rct0 o h).toLoadRect (View.loadsAt_vmem h_S512x512)) fun u =>
  .op (.load bufP (srect0 d s).toLoadRect (View.loadsAt_vmem h_S1x1x512x512)) fun v =>
  .op (.load outM (rct0 o h).toLoadRect (View.loadsAt_vmem h_S512x512)) fun _ =>
  .op (.store outM (rct0 o h) (addf (shapeCast S512x512 u shapeCasts_S512x512_S512x512) (shapeCast S512x512 v shapeCasts_S1x1x512x512_S512x512)) Finset.univ
    (View.stores_vmem_bits_univ h_S512x512 rfl) (.inl rfl)) fun _ => k

def accum1 (d : Fin 2) (s : Fin 3) (o : Fin 2 → ℕ) (h : ∀ a, o a + S128x512.size a ≤ S2048x1024.size a) (k : Pg F) : Pg F :=
  .op (.load outM (rct1 o h).toLoadRect (View.loadsAt_vmem h_S128x512)) fun u =>
  .op (.load bufZ (srect1 d s).toLoadRect (View.loadsAt_vmem h_S1x1x128x512)) fun v =>
  .op (.load outM (rct1 o h).toLoadRect (View.loadsAt_vmem h_S128x512)) fun _ =>
  .op (.store outM (rct1 o h) (addf (shapeCast S128x512 u shapeCasts_S128x512_S128x512) (shapeCast S128x512 v shapeCasts_S1x1x128x512_S128x512)) Finset.univ
    (View.stores_vmem_bits_univ h_S128x512 rfl) (.inl rfl)) fun _ => k

/-! ## The body -/

/-- A step's number as the word the offsets are printed with. -/
abbrev w3 (s : Fin 3) : BitVec 32 := BitVec.ofNat 32 s.val

/-- The four chunks of a group of 512 rows. -/
def group (c : Dev nD) (ox oi oo : Fin 4 → Fin 2 → ℕ) (hx : ∀ r a, ox r a + S128x512.size a ≤ S2048x512.size a)
    (hi : ∀ r a, oi r a + S128x1.size a ≤ S2048x1.size a) (ho : ∀ r a, oo r a + S128x1024.size a ≤ S2048x1024.size a) (k : Pg F) : Pg F :=
  chunk (devW c) (ox 0) (oi 0) (oo 0) (hx 0) (hi 0) (ho 0) <|
  chunk (devW c) (ox 1) (oi 1) (oo 1) (hx 1) (hi 1) (ho 1) <|
  chunk (devW c) (ox 2) (oi 2) (oo 2) (hx 2) (hi 2) (ho 2) <|
  chunk (devW c) (ox 3) (oi 3) (oo 3) (hx 3) (hi 3) (ho 3) k

/-- The device's own group of rows. -/
def ownGroup (c : Dev nD) (k : Pg F) : Pg F :=
  group c (fun r => k0_off1 c (BitVec.ofNat 32 (128 * r.val))) (fun r => k0_off2 c (BitVec.ofNat 32 (128 * r.val)))
    (fun r => k0_off3 c (BitVec.ofNat 32 (128 * r.val))) (k0_off1_inb c) (k0_off2_inb c) (k0_off3_inb c) k

/-- The group `j + 1` groups on. -/
def nextGroup (c : Dev nD) (j : Fin 3) (k : Pg F) : Pg F :=
  group c (fun r => k0_off6 c (BitVec.ofNat 32 (1 + j.val)) (BitVec.ofNat 32 (128 * r.val)))
    (fun r => k0_off7 c (BitVec.ofNat 32 (1 + j.val)) (BitVec.ofNat 32 (128 * r.val)))
    (fun r => k0_off8 c (BitVec.ofNat 32 (1 + j.val)) (BitVec.ofNat 32 (128 * r.val)))
    (k0_off6_inb c j) (k0_off7_inb c j) (k0_off8_inb c j) k

/-- Step `s` of the plane reduce-scatter, its two copies started. -/
def rs0Start (c : Dev nD) (s : Fin 3) (n₁ n₂ : Dev nD) (k : Pg F) : Pg F :=
  start 0 0 s n₁ (pc0 (k0_off4 c (w3 s)) (k0_off4_inb c s)) (slot0 0 s) (View.wordExact_bits rfl) ((View.wordExact_bits rfl).reshape _ _) <|
  start 0 1 s n₂ (pc0 (k0_off5 c (w3 s)) (k0_off5_inb c s)) (slot0 1 s) (View.wordExact_bits rfl) ((View.wordExact_bits rfl).reshape _ _) k

/-- The same step, its two copies waited for and what they brought added. -/
def rs0Finish (c : Dev nD) (s : Fin 3) (k : Pg F) : Pg F :=
  await 0 0 s (pc0 (k0_off4 c (w3 s)) (k0_off4_inb c s)) (slot0 0 s) (View.wordExact_bits rfl) ((View.wordExact_bits rfl).reshape _ _) <|
  await 0 1 s (pc0 (k0_off5 c (w3 s)) (k0_off5_inb c s)) (slot0 1 s) (View.wordExact_bits rfl) ((View.wordExact_bits rfl).reshape _ _) <|
  accum0 0 s (k0_off9 c (w3 s)) (k0_off9_inb c s) <| accum0 1 s (k0_off10 c (w3 s)) (k0_off10_inb c s) k

/-- Step `s` of the reduce-scatter on the other ring. -/
def rs1 (c : Dev nD) (s : Fin 3) (n₁ n₂ : Dev nD) (k : Pg F) : Pg F :=
  start 1 0 s n₁ (pc1 (k0_off11 c (w3 s)) (k0_off11_inb c s)) (slot1 0 s) (View.wordExact_bits rfl) ((View.wordExact_bits rfl).reshape _ _) <|
  start 1 1 s n₂ (pc1 (k0_off12 c (w3 s)) (k0_off12_inb c s)) (slot1 1 s) (View.wordExact_bits rfl) ((View.wordExact_bits rfl).reshape _ _) <|
  await 1 0 s (pc1 (k0_off11 c (w3 s)) (k0_off11_inb c s)) (slot1 0 s) (View.wordExact_bits rfl) ((View.wordExact_bits rfl).reshape _ _) <|
  await 1 1 s (pc1 (k0_off12 c (w3 s)) (k0_off12_inb c s)) (slot1 1 s) (View.wordExact_bits rfl) ((View.wordExact_bits rfl).reshape _ _) <|
  accum1 0 s (k0_off13 c (w3 s)) (k0_off13_inb c s) <| accum1 1 s (k0_off14 c (w3 s)) (k0_off14_inb c s) k

/-- Step `s` of the all-gather on that ring. -/
def ag1 (c : Dev nD) (s : Fin 3) (n₁ n₂ : Dev nD) (k : Pg F) : Pg F :=
  start 2 0 s n₁ (pc1 (k0_off15 c (w3 s)) (k0_off15_inb c s)) (pc1 (k0_off15 c (w3 s)) (k0_off15_inb c s)) (View.wordExact_bits rfl) (View.wordExact_bits rfl) <|
  start 2 1 s n₂ (pc1 (k0_off16 c (w3 s)) (k0_off16_inb c s)) (pc1 (k0_off16 c (w3 s)) (k0_off16_inb c s)) (View.wordExact_bits rfl) (View.wordExact_bits rfl) <|
  await 2 0 s (pc1 (k0_off15 c (w3 s)) (k0_off15_inb c s)) (pc1 (k0_off15 c (w3 s)) (k0_off15_inb c s)) (View.wordExact_bits rfl) (View.wordExact_bits rfl) <|
  await 2 1 s (pc1 (k0_off16 c (w3 s)) (k0_off16_inb c s)) (pc1 (k0_off16 c (w3 s)) (k0_off16_inb c s)) (View.wordExact_bits rfl) (View.wordExact_bits rfl) k

/-- Step `s` of the plane all-gather. -/
def ag0 (c : Dev nD) (s : Fin 3) (n₁ n₂ : Dev nD) (k : Pg F) : Pg F :=
  start 3 0 s n₁ (pc0 (k0_off17 c (w3 s)) (k0_off17_inb c s)) (pc0 (k0_off17 c (w3 s)) (k0_off17_inb c s)) (View.wordExact_bits rfl) (View.wordExact_bits rfl) <|
  start 3 1 s n₂ (pc0 (k0_off18 c (w3 s)) (k0_off18_inb c s)) (pc0 (k0_off18 c (w3 s)) (k0_off18_inb c s)) (View.wordExact_bits rfl) (View.wordExact_bits rfl) <|
  await 3 0 s (pc0 (k0_off17 c (w3 s)) (k0_off17_inb c s)) (pc0 (k0_off17 c (w3 s)) (k0_off17_inb c s)) (View.wordExact_bits rfl) (View.wordExact_bits rfl) <|
  await 3 1 s (pc0 (k0_off18 c (w3 s)) (k0_off18_inb c s)) (pc0 (k0_off18 c (w3 s)) (k0_off18_inb c s)) (View.wordExact_bits rfl) (View.wordExact_bits rfl) k

/-- The plane reduce-scatter, the three other groups computed while its copies are under way. -/
def planeRS (c : Dev nD) (k : Pg F) : Pg F :=
  rs0Start c 0 ⟨k0_dev5 c, k0_dev5_lt c⟩ ⟨k0_dev6 c, k0_dev6_lt c⟩ <|
  nextGroup c 0 <| nextGroup c 2 <| rs0Finish c 0 <|
  rs0Start c 1 ⟨k0_dev7 c, k0_dev7_lt c⟩ ⟨k0_dev8 c, k0_dev8_lt c⟩ <|
  nextGroup c 1 <| rs0Finish c 1 <|
  rs0Start c 2 ⟨k0_dev9 c, k0_dev9_lt c⟩ ⟨k0_dev10 c, k0_dev10_lt c⟩ <| rs0Finish c 2 k

def otherRS (c : Dev nD) (k : Pg F) : Pg F :=
  rs1 c 0 ⟨k0_dev11 c, k0_dev11_lt c⟩ ⟨k0_dev12 c, k0_dev12_lt c⟩ <|
  rs1 c 1 ⟨k0_dev13 c, k0_dev13_lt c⟩ ⟨k0_dev14 c, k0_dev14_lt c⟩ <|
  rs1 c 2 ⟨k0_dev15 c, k0_dev15_lt c⟩ ⟨k0_dev16 c, k0_dev16_lt c⟩ k

def otherAG (c : Dev nD) (k : Pg F) : Pg F :=
  ag1 c 0 ⟨k0_dev17 c, k0_dev17_lt c⟩ ⟨k0_dev18 c, k0_dev18_lt c⟩ <|
  ag1 c 1 ⟨k0_dev19 c, k0_dev19_lt c⟩ ⟨k0_dev20 c, k0_dev20_lt c⟩ <|
  ag1 c 2 ⟨k0_dev21 c, k0_dev21_lt c⟩ ⟨k0_dev22 c, k0_dev22_lt c⟩ k

def planeAG (c : Dev nD) (k : Pg F) : Pg F :=
  ag0 c 0 ⟨k0_dev23 c, k0_dev23_lt c⟩ ⟨k0_dev24 c, k0_dev24_lt c⟩ <|
  ag0 c 1 ⟨k0_dev25 c, k0_dev25_lt c⟩ ⟨k0_dev26 c, k0_dev26_lt c⟩ <|
  ag0 c 2 ⟨k0_dev27 c, k0_dev27_lt c⟩ ⟨k0_dev28 c, k0_dev28_lt c⟩ k

/-- The entry handshake: tell the four neighbours that this device has entered, wait to be told by the four. -/
def enter (c : Dev nD) (k : Pg F) : Pg F :=
  .op (.semSignal ((⟨k0_dev1 c, k0_dev1_lt c⟩ : Dev nD), .tc) barS (1#32).toInt) fun _ =>
  .op (.semSignal ((⟨k0_dev2 c, k0_dev2_lt c⟩ : Dev nD), .tc) barS (1#32).toInt) fun _ =>
  .op (.semSignal ((⟨k0_dev3 c, k0_dev3_lt c⟩ : Dev nD), .tc) barS (1#32).toInt) fun _ =>
  .op (.semSignal ((⟨k0_dev4 c, k0_dev4_lt c⟩ : Dev nD), .tc) barS (1#32).toInt) fun _ =>
  .op (.semWait barS (4#32).toInt) fun _ => k

/-- The body after the device has read its number. -/
def bodyAt (c : Dev nD) : Pg F :=
  enter c <| ownGroup c <| planeRS c <| otherRS c <| otherAG c <| planeAG c <| .ret ⟨⟩

/-- The whole body. -/
def prog : Pg F := .op .deviceId fun c => bodyAt c

/-- The printed body, on the staging and scratch buffers, is that program. -/
theorem body_eq :
    cc0_body (F := F) xM (Memref.isWhole_whole _) idxM (Memref.isWhole_whole _) wM (Memref.isWhole_whole _) outM (Memref.isWhole_whole _)
      bufP (Memref.isWhole_whole _) bufZ (Memref.isWhole_whole _) cc0_scratch2 cc0_scratch3 cc0_scratch4 cc0_scratch5 cc0_scratch6 cc0_scratch7 cc0_scratch8 cc0_scratch9
      = prog := by
  rw [cc0_body_eq_skeleton]
  rfl

end Cert.KernelIdeal.Moe
-- ==== Proof.KernelIdeal.Geom.lean ====
/-
The torus and the pieces of the result.

The sixteen devices form a 4 x 4 torus: device `4 z + k` stands at place `k` of its plane ring and place `z` of the other
ring. A copy goes in direction `0` (to the next place, the left half of the columns) or `1` (to the place before,
the right half). A device's pieces on a ring are numbered by the step that sends them: piece `0` starts at the device
itself (plane ring) or at its own quarter (other ring), and one step on, a device's piece `i + 1` is what its
predecessor calls `i`.
-/
module

public import proofs.«01_k».proof.Proof.KernelIdeal.Prog

@[expose] public section

set_option maxRecDepth 16384

noncomputable section

namespace Cert.KernelIdeal.Moe

open Cert.KernelIdeal Cert.KernelIdeal.Gen
open Idealize.ShloMosaic Idealize.ShloMosaic.TcCoe Idealize.SL.Sem

/-! ## The torus -/

/-- The place after `a` on a ring of four, in direction `d`. -/
def stepOn (d : Fin 2) (a : ℕ) : ℕ := (a + 1 + 2 * d.val) % 4

/-- The device that `c`'s copies in direction `d` go to: on the plane ring (`l = 0`) or on the other. -/
def nb (l d : Fin 2) (c : Dev nD) : Dev nD :=
  if l = 0 then ⟨4 * (c.val / 4) + stepOn d (c.val % 4), by have : c.val < 16 := c.isLt; unfold stepOn; show _ < 16; omega⟩
  else ⟨4 * stepOn d (c.val / 4) + c.val % 4, by have : c.val < 16 := c.isLt; unfold stepOn; show _ < 16; omega⟩

/-- The other direction. -/
def opp (d : Fin 2) : Fin 2 := ⟨1 - d.val, by omega⟩

/-- The device whose copies in direction `d` come to `c`. -/
def src (l d : Fin 2) (c : Dev nD) : Dev nD := nb l (opp d) c

theorem opp_opp (d : Fin 2) : opp (opp d) = d := by revert d; decide
theorem nb_src (l d : Fin 2) (c : Dev nD) : nb l d (src l d c) = c := by revert l d c; decide +kernel
theorem src_nb (l d : Fin 2) (c : Dev nD) : src l d (nb l d c) = c := by revert l d c; decide +kernel
theorem src_opp (l d : Fin 2) (c : Dev nD) : src l (opp d) c = nb l d c := by unfold src; rw [opp_opp]
theorem nb_opp (l d : Fin 2) (c : Dev nD) : nb l (opp d) c = src l d c := rfl

/-- Going one step on a ring, as a permutation of the devices. -/
def ringEquiv (l d : Fin 2) : Dev nD ≃ Dev nD := ⟨nb l d, src l d, src_nb l d, nb_src l d⟩

/-! ## The pieces -/

/-- The number of rows of a piece. -/
def hgt (l : Fin 2) : ℕ := if l = 0 then 512 else 128

/-- The place on a ring of four `i` steps against direction `d` from `a`. -/
def back (d : Fin 2) (a i : ℕ) : ℕ := (a + i * (3 - 2 * d.val)) % 4

/-- The first row of device `c`'s piece `i`. -/
def rowB (l d : Fin 2) (c : Dev nD) (i : Fin 4) : ℕ :=
  if l = 0 then 512 * back d (c.val % 4) i.val else 512 * stepOn d (c.val % 4) + 128 * back d (c.val / 4) i.val

/-- The offset of that piece. -/
def pOff (l d : Fin 2) (c : Dev nD) (i : Fin 4) : Fin 2 → ℕ := ![rowB l d c i, 512 * d.val]

/-- The piece an all-gather sends at step `t`: the one that came last. -/
def late (t : Fin 3) : Fin 4 := t.castSucc + 3

theorem late_succ (t : Fin 3) : late t + 1 = t.castSucc := by revert t; decide
theorem castSucc_succ (s : Fin 3) : s.castSucc + 1 = s.succ := by revert s; decide

theorem rowB_nb (l d : Fin 2) (c : Dev nD) (i : Fin 4) : rowB l d (nb l d c) (i + 1) = rowB l d c i := by
  revert l d c i; decide +kernel

theorem pOff_nb (l d : Fin 2) (c : Dev nD) (i : Fin 4) : pOff l d (nb l d c) (i + 1) = pOff l d c i := by
  unfold pOff; rw [rowB_nb]

theorem rowB_le (l d : Fin 2) (c : Dev nD) (i : Fin 4) : rowB l d c i + hgt l ≤ 2048 := by revert l d c i; decide +kernel

theorem pOff0_inb (d : Fin 2) (c : Dev nD) (i : Fin 4) : ∀ a, pOff 0 d c i a + S512x512.size a ≤ S2048x1024.size a := by
  revert d c i; decide +kernel
theorem pOff1_inb (d : Fin 2) (c : Dev nD) (i : Fin 4) : ∀ a, pOff 1 d c i a + S128x512.size a ≤ S2048x1024.size a := by
  revert d c i; decide +kernel

/-- A row, resp. a column, of the result. -/
abbrev row (x : S2048x1024.Idx) : ℕ := (x 0).val
abbrev col (x : S2048x1024.Idx) : ℕ := (x 1).val

theorem row_lt (x : S2048x1024.Idx) : row x < 2048 := (x 0).isLt
theorem col_lt (x : S2048x1024.Idx) : col x < 1024 := (x 1).isLt

/-- The elements in `h` rows from `b` and in half `d` of the columns. -/
def box (b h : ℕ) (d : Fin 2) : Finset S2048x1024.Idx :=
  Finset.univ.filter fun x => b ≤ row x ∧ row x < b + h ∧ col x / 512 = d.val

theorem mem_box {b h : ℕ} {d : Fin 2} {x : S2048x1024.Idx} : x ∈ box b h d ↔ b ≤ row x ∧ row x < b + h ∧ col x / 512 = d.val := by
  unfold box; rw [Finset.mem_filter]; simp only [Finset.mem_univ, true_and]

/-- The elements in `h` rows from `b`. -/
def rows (b h : ℕ) : Finset S2048x1024.Idx := Finset.univ.filter fun x => b ≤ row x ∧ row x < b + h

theorem mem_rows {b h : ℕ} {x : S2048x1024.Idx} : x ∈ rows b h ↔ b ≤ row x ∧ row x < b + h := by
  unfold rows; rw [Finset.mem_filter]; simp only [Finset.mem_univ, true_and]

/-- The elements of device `c`'s piece `i`. -/
def pset (l d : Fin 2) (c : Dev nD) (i : Fin 4) : Finset S2048x1024.Idx := box (rowB l d c i) (hgt l) d

theorem pset_nb (l d : Fin 2) (c : Dev nD) (i : Fin 4) : pset l d (nb l d c) (i + 1) = pset l d c i := by
  unfold pset; rw [rowB_nb]

/-- What a device receives at a step is the piece its predecessor sends. -/
theorem pset_recv (l d : Fin 2) (c : Dev nD) (i : Fin 4) : pset l d c (i + 1) = pset l d (src l d c) i := by
  have h := pset_nb l d (src l d c) i
  rwa [nb_src] at h

theorem rect2_set {h : ℕ} {o : Fin 2 → ℕ} {sz : Fin 2 → ℕ} (hi : ∀ a, o a + sz a ≤ S2048x1024.size a) (d : Fin 2) (b : ℕ)
    (ho : o = ![b, 512 * d.val]) (hs : sz = ![h, 512]) : (Rect.unit (s := S2048x1024) o sz hi).set = box b h d := by
  subst ho hs
  ext x
  have hx := col_lt x
  have hd : d.val < 2 := d.isLt
  rw [Rect.mem_set_unit, mem_box]
  constructor
  · intro hm
    have h0 : b ≤ row x ∧ row x < b + h := hm 0
    have h1 : 512 * d.val ≤ col x ∧ col x < 512 * d.val + 512 := hm 1
    omega
  · rintro ⟨h1, h2, h3⟩ a
    fin_cases a
    · exact ⟨h1, h2⟩
    · show 512 * d.val ≤ col x ∧ col x < 512 * d.val + 512
      omega

theorem pset0_rect (d : Fin 2) (c : Dev nD) (i : Fin 4) : (rct0 (pOff 0 d c i) (pOff0_inb d c i)).set = pset 0 d c i :=
  rect2_set _ d _ rfl rfl
theorem pset1_rect (d : Fin 2) (c : Dev nD) (i : Fin 4) : (rct1 (pOff 1 d c i) (pOff1_inb d c i)).set = pset 1 d c i :=
  rect2_set _ d _ rfl rfl

end Cert.KernelIdeal.Moe
-- ==== Proof.KernelIdeal.Contents.lean ====
/-
What the result buffer holds on the way.

`part c` is what device `c` computes itself. `acc l d n c` is what piece `n` of device `c` holds once `n` pieces have
been added to it in the reduce-scatter on ring `l`; the second reduce-scatter starts from the last piece of the first.
`fin d` is the finished result in half `d` of the columns, each element as its owner left it.
-/
module

public import proofs.«01_k».proof.Proof.KernelIdeal.Geom

@[expose] public section

set_option maxRecDepth 16384

noncomputable section

namespace Cert.KernelIdeal.Moe

open Cert.KernelIdeal Cert.KernelIdeal.Gen
open Idealize.ShloMosaic Idealize.ShloMosaic.TcCoe Idealize.SL.Sem

variable {F : FTy → Type} [FloatOps F]

/-- The contents of the result buffer. -/
abbrev Out (F : FTy → Type) : Type := (cc0_stg3_0 : Ref sig .tc).ty.Contents (Elt F)

/-- What the three inputs of a device are staged as. -/
structure Staged (F : FTy → Type) where
  x : (cc0_stg0_0 : Ref sig .tc).ty.Contents (Elt F)
  i : (cc0_stg1_0 : Ref sig .tc).ty.Contents (Elt F)
  w : (cc0_stg2_0 : Ref sig .tc).ty.Contents (Elt F)

variable (I : Dev nD → Staged F)

theorem chunkX_inb (b : Fin 16) : ∀ a, (![128 * b.val, 0] : Fin 2 → ℕ) a + S128x512.size a ≤ S2048x512.size a := by revert b; decide
theorem chunkI_inb (b : Fin 16) : ∀ a, (![128 * b.val, 0] : Fin 2 → ℕ) a + S128x1.size a ≤ S2048x1.size a := by revert b; decide
theorem chunkO_inb (b : Fin 16) : ∀ a, (![128 * b.val, 0] : Fin 2 → ℕ) a + S128x1024.size a ≤ S2048x1024.size a := by revert b; decide

/-- The value device `c` computes for the chunk of rows from `128 * b`. -/
def chunkAt (c : Dev nD) (b : Fin 16) : FVec F S128x1024 .f32 :=
  chunkVal (devW c)
    ((xM : Memref sig .tc .vmem S2048x512 .f32).view.readAt (Elt F) (Rect.unit (s := S2048x512) ![128 * b.val, 0] S128x512.size (chunkX_inb b)).toLoadRect (I c).x)
    ((idxM : Memref sig .tc .vmem S2048x1 .i32).view.readAt (Elt F) (Rect.unit (s := S2048x1) ![128 * b.val, 0] S128x1.size (chunkI_inb b)).toLoadRect (I c).i)
    ((wM : Memref sig .tc .vmem S4x512x1024 .f32).view.readAt (Elt F) (wRect 0 (wRect_inb 0)).toLoadRect (I c).w)
    ((wM : Memref sig .tc .vmem S4x512x1024 .f32).view.readAt (Elt F) (wRect 1 (wRect_inb 1)).toLoadRect (I c).w)
    ((wM : Memref sig .tc .vmem S4x512x1024 .f32).view.readAt (Elt F) (wRect 2 (wRect_inb 2)).toLoadRect (I c).w)
    ((wM : Memref sig .tc .vmem S4x512x1024 .f32).view.readAt (Elt F) (wRect 3 (wRect_inb 3)).toLoadRect (I c).w)

/-- The chunk a row is in, and the element's place in its chunk. -/
def chunkOf (x : S2048x1024.Idx) : Fin 16 := ⟨row x / 128, by have := row_lt x; omega⟩
def inChunk (x : S2048x1024.Idx) : S128x1024.Idx := fun a => match a with
  | ⟨0, _⟩ => ⟨row x % 128, Nat.mod_lt _ (by decide)⟩
  | ⟨1, _⟩ => ⟨col x, col_lt x⟩

/-- What device `c` computes. -/
def part (c : Dev nD) : Out F := fun x : S2048x1024.Idx => chunkAt I c (chunkOf x) (inChunk x)

/-- Sum of two results, element by element. -/
def plus (u v : Out F) : Out F := fun x : S2048x1024.Idx => FloatOps.addf (F := F) (φ := .f32) (u x) (v x)

/-- `n` steps of a ring: each device adds its own value to what the device before it has accumulated. -/
def ringSum (base : Dev nD → Out F) (l d : Fin 2) : ℕ → Dev nD → Out F
  | 0, c => base c
  | n + 1, c => plus (base c) (ringSum base l d n (src l d c))

/-- What the reduce-scatter on ring `l` in direction `d` starts from. -/
def base (l d : Fin 2) (c : Dev nD) : Out F := if l = 0 then part I c else ringSum (part I) 0 d 3 c

/-- What piece `n` of device `c` holds with `n` pieces added to it. -/
def acc (l d : Fin 2) (n : ℕ) (c : Dev nD) : Out F := ringSum (base I l d) l d n c

theorem acc_zero (d : Fin 2) (c : Dev nD) : acc I 0 d 0 c = part I c := rfl
theorem acc_one_zero (d : Fin 2) (c : Dev nD) : acc I 1 d 0 c = acc I 0 d 3 c := rfl
theorem acc_succ (l d : Fin 2) (n : ℕ) (c : Dev nD) : acc I l d (n + 1) c = plus (acc I l d 0 c) (acc I l d n (src l d c)) := rfl

/-- The device that finishes, in direction `d`, quarter `q` of group `g`. -/
def ownerOf (d : Fin 2) (g q : ℕ) : Dev nD :=
  ⟨4 * ((q + 3 - 2 * d.val) % 4) + (g + 3 - 2 * d.val) % 4, by show _ < 16; omega⟩

/-- The finished result in half `d` of the columns. -/
def fin (d : Fin 2) : Out F := fun x : S2048x1024.Idx => acc I 1 d 3 (ownerOf d (row x / 512) (row x / 128 % 4)) x

/-- The finished result. -/
def result : Out F := fun x : S2048x1024.Idx => fin I ⟨col x / 512, by have := col_lt x; omega⟩ x

theorem owner_rowB : ∀ (d : Fin 2) (c : Dev nD), rowB 1 d c 3 % 128 = 0 ∧ ownerOf d (rowB 1 d c 3 / 512) (rowB 1 d c 3 / 128 % 4) = c := by decide +kernel

/-- A device's last piece on the second ring holds the finished result. -/
theorem acc_fin (d : Fin 2) (c : Dev nD) : ∀ x ∈ pset 1 d c 3, acc I 1 d 3 c x = fin I d x := by
  intro x hx
  obtain ⟨h1, h2, -⟩ := mem_box.1 hx
  obtain ⟨hr, ho⟩ := owner_rowB d c
  have hh : hgt 1 = 128 := rfl
  rw [hh] at h2
  have e1 : row x / 128 = rowB 1 d c 3 / 128 := by omega
  have e2 : row x / 512 = rowB 1 d c 3 / 512 := by omega
  unfold fin
  rw [e1, e2, ho]

theorem fin_result (d : Fin 2) (c : Dev nD) (i : Fin 4) : ∀ x ∈ pset 0 d c i, fin I d x = result I x := by
  intro x hx
  obtain ⟨-, -, h⟩ := mem_box.1 hx
  have e : (⟨col x / 512, by have := col_lt x; omega⟩ : Fin 2) = d := Fin.ext h
  show fin I d x = fin I ⟨col x / 512, _⟩ x
  rw [e]

/-- On a chunk's rows, what the device computes is the chunk's value. -/
theorem part_chunk (c : Dev nD) (b : Fin 16) (j : (Rect.unit (s := S2048x1024) ![128 * b.val, 0] S128x1024.size (chunkO_inb b)).shape.Idx) :
    part I c ((Rect.unit (s := S2048x1024) ![128 * b.val, 0] S128x1024.size (chunkO_inb b)).emb j) = chunkAt I c b j := by
  have h0 : row ((Rect.unit (s := S2048x1024) ![128 * b.val, 0] S128x1024.size (chunkO_inb b)).emb j) = 128 * b.val + (j 0).val := by
    show 128 * b.val + 1 * (j 0).val = _; rw [Nat.one_mul]
  have h1 : col ((Rect.unit (s := S2048x1024) ![128 * b.val, 0] S128x1024.size (chunkO_inb b)).emb j) = (j 1).val := by
    show 0 + 1 * (j 1).val = _; rw [Nat.one_mul, Nat.zero_add]
  have hj : (j 0).val < 128 := (j 0).isLt
  unfold part
  have e1 : chunkOf ((Rect.unit (s := S2048x1024) ![128 * b.val, 0] S128x1024.size (chunkO_inb b)).emb j) = b :=
    Fin.ext (by show row _ / 128 = b.val; rw [h0]; omega)
  have e2 : inChunk ((Rect.unit (s := S2048x1024) ![128 * b.val, 0] S128x1024.size (chunkO_inb b)).emb j) = j := by
    funext a
    refine Fin.ext ?_
    fin_cases a
    · show row _ % 128 = (j 0).val; rw [h0]; omega
    · exact h1
  rw [e1, e2]

end Cert.KernelIdeal.Moe
-- ==== Proof.KernelIdeal.Sched.lean ====
/-
The protocol.

Every copy has two cells: its departure's at the sender, paid back with the piece sent, and its arrival's at the
receiver, paid with what has arrived. The runtime's barrier cell of a device has four duties, one per neighbour: each
neighbour hands over the slots of its landing buffers that this device writes into. The all-gathers write into the
neighbour's result itself; a device lets a piece of its result go with the copy it sends the other way once the piece has been
sent on (`grant`).
-/
module

public import proofs.«01_k».proof.Proof.KernelIdeal.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of the duties of a cell: a ring and a direction. -/
abbrev Duty : Type := Fin 2 × Fin 2

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (I : Dev nD → Staged F)

/-! ## The cells -/

/-- The ring a phase runs on. -/
def lvl (p : Fin 4) : Fin 2 := match p with | 0 => 0 | 1 => 1 | 2 => 1 | 3 => 0

abbrev sendCell (p : Fin 4) (d : Fin 2) (s : Fin 3) (c : Dev nD) : GSem nD τ sig := ((c : Thread nD τ), .dma (sendS p d s))
abbrev recvCell (p : Fin 4) (d : Fin 2) (s : Fin 3) (c : Dev nD) : GSem nD τ sig := ((c : Thread nD τ), .dma (recvS p d s))
abbrev barCell (c : Dev nD) : GSem nD τ sig := ((c : Thread nD τ), .reg barS)

/-- The credit of a copy of a piece. -/
def crd (l : Fin 2) : ℕ := if l = 0 then (slot0 0 0).view.dmaCredit else (slot1 0 0).view.dmaCredit

theorem crd_pos (l : Fin 2) : 0 < crd l := by
  unfold crd
  split
  · exact View.dmaCredit_pos _ (by decide)
  · exact View.dmaCredit_pos _ (by decide)

/-- A copy as its semaphore's number says it: the phase, arrival or departure, the direction and the step. -/
def phOf (q : DmaSem sig) : Fin 4 := ⟨(q.val - 4) / 12 % 4, Nat.mod_lt _ (by decide)⟩
def isRecv (q : DmaSem sig) : Prop := (q.val - 4) % 12 / 6 = 1
def dirOf (q : DmaSem sig) : Fin 2 := ⟨(q.val - 4) % 6 / 3, by omega⟩
def stOf (q : DmaSem sig) : Fin 3 := ⟨(q.val - 4) % 3, Nat.mod_lt _ (by decide)⟩

instance (q : DmaSem sig) : Decidable (isRecv q) := by unfold isRecv; infer_instance

theorem phOf_send (p : Fin 4) (d : Fin 2) (s : Fin 3) : phOf (sendS p d s) = p := by revert p d s; decide +kernel
theorem dirOf_send (p : Fin 4) (d : Fin 2) (s : Fin 3) : dirOf (sendS p d s) = d := by revert p d s; decide +kernel
theorem stOf_send (p : Fin 4) (d : Fin 2) (s : Fin 3) : stOf (sendS p d s) = s := by revert p d s; decide +kernel
theorem not_isRecv_send (p : Fin 4) (d : Fin 2) (s : Fin 3) : ¬ isRecv (sendS p d s) := by revert p d s; decide +kernel
theorem phOf_recv (p : Fin 4) (d : Fin 2) (s : Fin 3) : phOf (recvS p d s) = p := by revert p d s; decide +kernel
theorem dirOf_recv (p : Fin 4) (d : Fin 2) (s : Fin 3) : dirOf (recvS p d s) = d := by revert p d s; decide +kernel
theorem stOf_recv (p : Fin 4) (d : Fin 2) (s : Fin 3) : stOf (recvS p d s) = s := by revert p d s; decide +kernel
theorem isRecv_recv (p : Fin 4) (d : Fin 2) (s : Fin 3) : isRecv (recvS p d s) := by revert p d s; decide +kernel
theorem four_le_send (p : Fin 4) (d : Fin 2) (s : Fin 3) : 4 ≤ (sendS p d s).val := by unfold sendS; show 4 ≤ 4 + 12 * p.val + 3 * d.val + s.val; omega
theorem four_le_recv (p : Fin 4) (d : Fin 2) (s : Fin 3) : 4 ≤ (recvS p d s).val := by unfold recvS; show 4 ≤ 10 + 12 * p.val + 3 * d.val + s.val; omega

/-! ## What changes hands -/

/-- A set of elements of device `c`'s result, with contents `f`. -/
def outP (c : Dev nD) (S : Finset S2048x1024.Idx) (f : Out F) : sProp 𝕄 :=
  ((outM : Memref sig .tc .vmem S2048x1024 .f32).view.loc (c : Thread nD τ)) ↦[S]{fullShare} f

/-- Slot `(d, s)` of device `c`'s landing buffer of ring `l`, with any contents. -/
def slotAny (l d : Fin 2) (s : Fin 3) (c : Dev nD) : sProp 𝕄 :=
  if l = 0 then iprop(∃ g, (slot0 d s).view.loc (c : Thread nD τ) ↦[(slot0 d s).view.set]{fullShare} g)
  else iprop(∃ g, (slot1 d s).view.loc (c : Thread nD τ) ↦[(slot1 d s).view.set]{fullShare} g)

/-- The piece that `b` sends at a step of a reduce-scatter, as a memory reference. -/
abbrev piece0 (d : Fin 2) (b : Dev nD) (i : Fin 4) : Memref sig .tc .vmem S512x512 .f32 := pc0 (pOff 0 d b i) (pOff0_inb d b i)
abbrev piece1 (d : Fin 2) (b : Dev nD) (i : Fin 4) : Memref sig .tc .vmem S128x512 .f32 := pc1 (pOff 1 d b i) (pOff1_inb d b i)

/-- Slot `(d, s)` of device `c`'s landing buffer of ring `l`, holding what device `b`'s piece held when it sent it. -/
def landed (l d : Fin 2) (s : Fin 3) (b c : Dev nD) : sProp 𝕄 :=
  if l = 0 then iprop(∃ g, ⌜(slot0 d s).view.read (Elt F) g = (piece0 d b s.castSucc).view.read (Elt F) (acc I 0 d s.val b)⌝
    ∗ ((slot0 d s).view.loc (c : Thread nD τ) ↦[(slot0 d s).view.set]{fullShare} g))
  else iprop(∃ g, ⌜(slot1 d s).view.read (Elt F) g = (piece1 d b s.castSucc).view.read (Elt F) (acc I 1 d s.val b)⌝
    ∗ ((slot1 d s).view.loc (c : Thread nD τ) ↦[(slot1 d s).view.set]{fullShare} g))

/-- What a copy sent by `b` at phase `p`, direction `d`, step `s` lets go besides its data: a piece of `b`'s result that the
    receiver will write into in the all-gather of the same ring. -/
def grant (p : Fin 4) (d : Fin 2) (s : Fin 3) (b : Dev nD) : sProp 𝕄 :=
  if p.val < 2 then
    if s = 0 then iprop(emp) else iprop(∃ f, outP b (pset (lvl p) (opp d) b (s.castSucc + 3)) f)
  else if s = 0 then iprop(∃ f, outP b (pset (lvl p) (opp d) b 2) f) else iprop(emp)

/-- What the departure of a copy gives back: the piece sent. -/
def sendPay (p : Fin 4) (d : Fin 2) (s : Fin 3) (c : Dev nD) : sProp 𝕄 :=
  if p.val < 2 then iprop(∃ f, outP c (pset (lvl p) d c s.castSucc) f)
  else outP c (pset (lvl p) d c (late s)) (fin I d)

/-- What the arrival of a copy gives. -/
def recvPay (p : Fin 4) (d : Fin 2) (s : Fin 3) (c : Dev nD) : sProp 𝕄 :=
  iprop((if p.val < 2 then landed I (lvl p) d s (src (lvl p) d c) c else outP c (pset (lvl p) d c s.castSucc) (fin I d))
    ∗ grant p d s (src (lvl p) d c))

/-- What a neighbour's entry gives `c`: the neighbour's slots that `c` writes into. -/
def barPay (l d : Fin 2) (c : Dev nD) : sProp 𝕄 :=
  iprop(slotAny l d 0 (nb l d c) ∗ slotAny l d 1 (nb l d c) ∗ slotAny l d 2 (nb l d c))

omit [FloatOps F] in
instance outP_storable (c : Dev nD) (S) (f) : BI.Storable (upEmb : UEmb _ 𝕄) (outP (F := F) c S f) := by unfold outP; infer_instance
omit [FloatOps F] in
instance slotAny_storable (l d : Fin 2) (s : Fin 3) (c : Dev nD) : BI.Storable (upEmb : UEmb _ 𝕄) (slotAny (F := F) l d s c) := by
  unfold slotAny; split <;> infer_instance
instance landed_storable (l d : Fin 2) (s : Fin 3) (b c : Dev nD) : BI.Storable (upEmb : UEmb _ 𝕄) (landed I l d s b c) := by
  unfold landed; split <;> infer_instance
omit [FloatOps F] in
instance grant_storable (p : Fin 4) (d : Fin 2) (s : Fin 3) (b : Dev nD) : BI.Storable (upEmb : UEmb _ 𝕄) (grant (F := F) p d s b) := by
  unfold grant; split <;> split <;> infer_instance
instance sendPay_storable (p : Fin 4) (d : Fin 2) (s : Fin 3) (c : Dev nD) : BI.Storable (upEmb : UEmb _ 𝕄) (sendPay I p d s c) := by
  unfold sendPay; split <;> infer_instance
instance recvPay_storable (p : Fin 4) (d : Fin 2) (s : Fin 3) (c : Dev nD) : BI.Storable (upEmb : UEmb _ 𝕄) (recvPay I p d s c) := by
  unfold recvPay; split <;> infer_instance
omit [FloatOps F] in
instance barPay_storable (l d : Fin 2) (c : Dev nD) : BI.Storable (upEmb : UEmb _ 𝕄) (barPay (F := F) l d c) := by
  unfold barPay; infer_instance

/-! ## The schedule -/

/-- One round. A barrier cell has four duties of one unit, a cell of a copy the one duty of the copy's credit. -/
def sched : Rounds.Schedule (GSem nD τ sig) Duty 𝕄 where
  duties g r :=
    if r = 0 ∧ g.1.2 = .tc then
      match g.2 with
      | .reg b => if b = barS then Finset.univ else ∅
      | .dma q => if 4 ≤ q.val then {(0, 0)} else ∅
    else ∅
  unitless _ := False
  amount g _ _ := match g.2 with | .reg _ => 1 | .dma q => crd (lvl (phOf q))
  payload g _ e := match g.2 with
    | .reg _ => barPay e.1 e.2 g.1.1
    | .dma q => if isRecv q then recvPay I (phOf q) (dirOf q) (stOf q) g.1.1 else sendPay I (phOf q) (dirOf q) (stOf q) g.1.1
  amount_pos g _ _ _ := by
    split
    · exact Nat.one_pos
    · exact crd_pos _

instance sched_payload_storable (g : GSem nD τ sig) (r : ℕ) (e : Duty) : BI.Storable (upEmb : UEmb _ 𝕄) ((sched I).payload g r e) := by
  show BI.Storable upEmb (match g.2 with
    | .reg _ => barPay e.1 e.2 g.1.1
    | .dma q => if isRecv q then recvPay I (phOf q) (dirOf q) (stOf q) g.1.1 else sendPay I (phOf q) (dirOf q) (stOf q) g.1.1)
  split
  · infer_instance
  · split <;> infer_instance

section Facts
variable (p : Fin 4) (d : Fin 2) (s : Fin 3) (c : Dev nD) (e : Duty)

theorem duties_dma (q : DmaSem sig) (hq : 4 ≤ q.val) : (sched I).duties ((c : Thread nD τ), .dma q) 0 = {(0, 0)} := by
  dsimp only [sched]; rw [if_pos ⟨rfl, rfl⟩, if_pos hq]
theorem duties_bar : (sched I).duties (barCell c) 0 = Finset.univ := by
  dsimp only [sched]; rw [if_pos ⟨rfl, rfl⟩, if_pos rfl]
theorem duties_later (g : GSem nD τ sig) : ∀ r, 1 ≤ r → (sched I).duties g r = ∅ := fun r hr => by
  dsimp only [sched]; exact if_neg fun h => by omega

theorem amount_send : (sched I).amount (sendCell p d s c) 0 e = crd (lvl p) := by
  dsimp only [sched]; rw [phOf_send]
theorem amount_recv : (sched I).amount (recvCell p d s c) 0 e = crd (lvl p) := by
  dsimp only [sched]; rw [phOf_recv]
theorem amount_bar : (sched I).amount (barCell c) 0 e = 1 := rfl

theorem payload_send : (sched I).payload (sendCell p d s c) 0 e = sendPay I p d s c := by
  dsimp only [sched]; rw [if_neg (not_isRecv_send p d s), phOf_send, dirOf_send, stOf_send]
theorem payload_recv : (sched I).payload (recvCell p d s c) 0 e = recvPay I p d s c := by
  dsimp only [sched]; rw [if_pos (isRecv_recv p d s), phOf_recv, dirOf_recv, stOf_recv]
theorem payload_bar : (sched I).payload (barCell c) 0 e = barPay e.1 e.2 c := rfl

theorem expect_send : (sched I).expect (sendCell p d s c) 0 = crd (lvl p) := by
  unfold Rounds.Schedule.expect Rounds.Schedule.amountOf; rw [duties_dma I c _ (four_le_send p d s), Finset.sum_singleton, amount_send]
theorem expect_recv : (sched I).expect (recvCell p d s c) 0 = crd (lvl p) := by
  unfold Rounds.Schedule.expect Rounds.Schedule.amountOf; rw [duties_dma I c _ (four_le_recv p d s), Finset.sum_singleton, amount_recv]
theorem expect_bar : (sched I).expect (barCell c) 0 = 4 := by
  unfold Rounds.Schedule.expect Rounds.Schedule.amountOf; rw [duties_bar]
  rw [Finset.sum_congr rfl (fun e _ => amount_bar I c e)]; decide

end Facts

/-! ## Debts and levels -/

/-- The copies in the order a device starts them: number `j` is phase `j / 6`, step `j % 6 / 2`, direction `j % 2`. -/
def ordP (j : ℕ) : Fin 4 := ⟨j / 6 % 4, Nat.mod_lt _ (by decide)⟩
def ordS (j : ℕ) : Fin 3 := ⟨j % 6 / 2, by omega⟩
def ordD (j : ℕ) : Fin 2 := ⟨j % 2, Nat.mod_lt _ (by decide)⟩

/-- The arrival that device `c`'s copy number `j` owes. -/
def dueCell (c : Dev nD) (j : ℕ) : GSem nD τ sig := recvCell (ordP j) (ordD j) (ordS j) (nb (lvl (ordP j)) (ordD j) c)

/-- What device `c` owes with its last `n` copies to start. -/
def dues (c : Dev nD) : ℕ → CellTallies nD τ sig Unit
  | 0 => 0
  | n + 1 => dues c n + tallyAt (dueCell c (23 - n)) () (crd (lvl (ordP (23 - n))))

/-- What it owes at entry, and after each of its first three signals: all its copies, and a unit to each neighbour still
    to signal. -/
def debt1 (c : Dev nD) : CellTallies nD τ sig Unit := dues c 24 + tallyAt (barCell (nb 1 1 c)) () 1
def debt2 (c : Dev nD) : CellTallies nD τ sig Unit := debt1 c + tallyAt (barCell (nb 1 0 c)) () 1
def debt3 (c : Dev nD) : CellTallies nD τ sig Unit := debt2 c + tallyAt (barCell (nb 0 1 c)) () 1
def debt4 (c : Dev nD) : CellTallies nD τ sig Unit := debt3 c + tallyAt (barCell (nb 0 0 c)) () 1

def L (g : GSem nD τ sig) : Finset Unit := if g.1.2 = .tc then {()} else ∅

/-- Departures and the staging semaphores lowest, then the barrier, then the arrivals in the order of the steps. -/
def lv (g : GSem nD τ sig) (_ : Unit) : ℕ := match g.2 with
  | .reg _ => 1
  | .dma q => if 4 ≤ q.val ∧ isRecv q then 2 + 3 * (phOf q).val + (stOf q).val else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (p : Fin 4) (d : Fin 2) (s : Fin 3) (c : Dev nD) : lv (recvCell p d s c) () = 2 + 3 * p.val + s.val := by
  dsimp only [lv]; rw [if_pos ⟨four_le_recv p d s, isRecv_recv p d s⟩, phOf_recv, stOf_recv]
theorem lv_send (p : Fin 4) (d : Fin 2) (s : Fin 3) (c : Dev nD) : lv (sendCell p d s c) () = 0 := by
  dsimp only [lv]; rw [if_neg fun h => not_isRecv_send p d s h.2]
theorem lv_bar (c : Dev nD) : lv (barCell c) () = 1 := rfl

/-- A device owes only arrivals of copies it has yet to start. -/
theorem dues_pos (c : Dev nD) : ∀ (n : ℕ), n ≤ 24 → ∀ {g : GSem nD τ sig} {u : Unit}, 0 < dues c n g u → ∃ j, 24 - n ≤ j ∧ j < 24 ∧ g = dueCell c j
  | 0, _, g, u, h => absurd h (Nat.lt_irrefl 0)
  | n + 1, hn, g, u, h => by
    unfold dues at h
    rw [Pi.add_apply, Finsupp.add_apply, tallyAt_apply] at h
    by_cases hg : g = dueCell c (23 - n)
    · exact ⟨23 - n, by omega, by omega, hg⟩
    · rw [if_neg (fun h' => hg h'.1), Nat.add_zero] at h
      obtain ⟨j, h1, h2, h3⟩ := dues_pos c n (by omega) h
      exact ⟨j, by omega, h2, h3⟩

theorem lv_due (c : Dev nD) (j : ℕ) (hj : j < 24) : lv (dueCell c j) () = 2 + j / 2 := by
  unfold dueCell
  rw [lv_recv]
  show 2 + 3 * (j / 6 % 4) + j % 6 / 2 = 2 + j / 2
  omega

omit [FloatOps F] in
/-- A device that owes only its last `n` copies may wait on a cell below the first of them. -/
theorem mayWait (c : Dev nD) (sm : SemLoc sig) (n : ℕ) (hn : n ≤ 24) (hl : lv ((c : Thread nD τ), sm) () < 2 + (24 - n) / 2) :
    (levAts L lv : sProp 𝕄) ⊢ MayWait (c : Thread nD τ) sm () (dues c n) :=
  MayOwe.of_cut (L := L) (lev := lv) (lv ((c : Thread nD τ), sm) ()) (fun p hp => by rw [Finset.mem_singleton.mp hp, L_tc]; exact Finset.mem_singleton_self _)
    (fun g u hg => by
      obtain ⟨j, -, -, rfl⟩ := dues_pos c n hn hg
      unfold dueCell; rw [L_tc]; exact Finset.mem_singleton_self _)
    (fun p hp => by rw [Finset.mem_singleton.mp hp])
    (fun g u hg => by
      obtain ⟨j, h1, h2, rfl⟩ := dues_pos c n hn hg
      rw [lv_due c j h2]; omega)

end Cert.KernelIdeal.Moe
-- ==== Proof.KernelIdeal.Rules.lean ====
/-
The steps' rules: what each kind of step needs and what it leaves.
-/
module

public import proofs.«01_k».proof.Proof.KernelIdeal.Sched

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F)

/-! ## The cells' records -/

/-- The cells of a device: its copies' forty-eight, then its barrier's. -/
def csem (j : Fin 49) : SemLoc sig := if h : j.val < 48 then .dma ⟨4 + j.val, by show 4 + j.val < 52; omega⟩ else .reg barS
def kcell (ck : Dev nD × Fin 49) : GSem nD τ sig := ((ck.1 : Thread nD τ), csem ck.2)

def sendIx (p : Fin 4) (d : Fin 2) (s : Fin 3) : Fin 49 := ⟨12 * p.val + 3 * d.val + s.val, by omega⟩
def recvIx (p : Fin 4) (d : Fin 2) (s : Fin 3) : Fin 49 := ⟨6 + 12 * p.val + 3 * d.val + s.val, by omega⟩

theorem csem_send : ∀ (p : Fin 4) (d : Fin 2) (s : Fin 3), csem (sendIx p d s) = .dma (sendS p d s) := by decide +kernel
theorem csem_recv : ∀ (p : Fin 4) (d : Fin 2) (s : Fin 3), csem (recvIx p d s) = .dma (recvS p d s) := by decide +kernel

theorem kcell_send (p : Fin 4) (d : Fin 2) (s : Fin 3) (c : Dev nD) : kcell (c, sendIx p d s) = sendCell p d s c := congrArg (Prod.mk _) (csem_send p d s)
theorem kcell_recv (p : Fin 4) (d : Fin 2) (s : Fin 3) (c : Dev nD) : kcell (c, recvIx p d s) = recvCell p d s c := congrArg (Prod.mk _) (csem_recv p d s)
theorem kcell_bar (c : Dev nD) : kcell (c, 48) = barCell c := rfl

/-- Every cell's invariant, at the names `K`, and that every cell has reached its round. -/
def records (K : Dev nD × Fin 49 → ℕ) : sProp 𝕄 :=
  iprop((bigSep Finset.univ fun ck : Dev nD × Fin 49 => cellInv ER (sched I) (K ck) (kcell ck))
    ∗ bigSep Finset.univ fun ck : Dev nD × Fin 49 => reached ER (kcell ck) 0)

instance records_persistent (K : Dev nD × Fin 49 → ℕ) : BI.Persistent (records I K) := by unfold records; infer_instance

/-- What every step may use: the records and the levels. -/
def know (K : Dev nD × Fin 49 → ℕ) : sProp 𝕄 := iprop(records I K ∗ levAts L lv)

instance know_persistent (K : Dev nD × Fin 49 → ℕ) : BI.Persistent (know I K) := by unfold know; infer_instance

variable (K : Dev nD × Fin 49 → ℕ)

theorem know_inv (ck : Dev nD × Fin 49) : know I K ⊢ cellInv ER (sched I) (K ck) (kcell ck) := by
  unfold know records
  exact sep_elim_left.trans (sep_elim_left.trans (bigSep_elim (Finset.mem_univ ck)))
theorem know_reached (ck : Dev nD × Fin 49) : know I K ⊢ reached ER (kcell ck) 0 := by
  unfold know records
  exact sep_elim_left.trans (sep_elim_right.trans (bigSep_elim (Finset.mem_univ ck)))
theorem know_lev : know I K ⊢ levAts L lv := by
  unfold know; exact sep_elim_right

theorem know_send (p : Fin 4) (d : Fin 2) (s : Fin 3) (c : Dev nD) : know I K ⊢ cellInv ER (sched I) (K (c, sendIx p d s)) (sendCell p d s c) := by
  rw [← kcell_send]; exact know_inv I K _
theorem know_recv (p : Fin 4) (d : Fin 2) (s : Fin 3) (c : Dev nD) : know I K ⊢ cellInv ER (sched I) (K (c, recvIx p d s)) (recvCell p d s c) := by
  rw [← kcell_recv]; exact know_inv I K _
theorem know_bar (c : Dev nD) : know I K ⊢ cellInv ER (sched I) (K (c, 48)) (barCell c) := know_inv I K (c, 48)
theorem know_reached_send (p : Fin 4) (d : Fin 2) (s : Fin 3) (c : Dev nD) : know I K ⊢ reached ER (sendCell p d s c) 0 := by
  rw [← kcell_send]; exact know_reached I K _
theorem know_reached_recv (p : Fin 4) (d : Fin 2) (s : Fin 3) (c : Dev nD) : know I K ⊢ reached ER (recvCell p d s c) 0 := by
  rw [← kcell_recv]; exact know_reached I K _
theorem know_reached_bar (c : Dev nD) : know I K ⊢ reached ER (barCell c) 0 := know_reached I K (c, 48)

/-! ## The rights to a copy -/

abbrev 𝒱₀ : Variants := Variants.none

/-- The weakest precondition of a program of device `c`'s. -/
abbrev WP (c : Dev nD) (k : Pg F) (Q : PUnit.{1} → sProp 𝕄) : sProp 𝕄 := wp frame (wpE (defs₀ (F := F)) 𝒱₀ (c : Thread nD τ) none) Set.univ k Q

/-- What a device owes, whatever waits it has recorded. -/
def ow (c : Dev nD) (O : CellTallies nD τ sig Unit) : sProp 𝕄 := iprop(∃ W, owes (c : Thread nD τ) O W)

/-- The right to start a copy, and the right to wait for one's own departure and one's arrival. -/
def stk (p : Fin 4) (d : Fin 2) (s : Fin 3) (c : Dev nD) : sProp 𝕄 :=
  iprop(dutyTok ER (sendCell p d s c) 0 (0, 0) ∗ dutyTok ER (recvCell p d s (nb (lvl p) d c)) 0 (0, 0))
def wtk (p : Fin 4) (d : Fin 2) (s : Fin 3) (c : Dev nD) : sProp 𝕄 :=
  iprop(atPos ER (sendCell p d s c) 0 ∅ 0 ∗ atPos ER (recvCell p d s c) 0 ∅ 0 ∗ cred (tallyAt (recvCell p d s c) () (crd (lvl p))))
/-- The departure's credit, got at the start. -/
def sent (p : Fin 4) (d : Fin 2) (s : Fin 3) (c : Dev nD) : sProp 𝕄 := cred (tallyAt (sendCell p d s c) () (crd (lvl p)))
/-- Both counters back at zero. -/
def over (p : Fin 4) (d : Fin 2) (s : Fin 3) (c : Dev nD) : sProp 𝕄 := iprop(semVal (sendCell p d s c) 0 ∗ semVal (recvCell p d s c) 0)

variable {k : Pg F}

/-- The number of the copy of phase `p`, step `s`, direction `d` in the order they are started. -/
theorem due_at (c : Dev nD) (p : Fin 4) (d : Fin 2) (s : Fin 3) (n : ℕ) (hn : 23 - n = 6 * p.val + 2 * s.val + d.val) :
    dues c (n + 1) = dues c n + tallyAt (recvCell p d s (nb (lvl p) d c)) () (crd (lvl p)) := by
  have e1 : ordP (23 - n) = p := Fin.ext (by show (23 - n) / 6 % 4 = p.val; omega)
  have e2 : ordD (23 - n) = d := Fin.ext (by show (23 - n) % 2 = d.val; omega)
  have e3 : ordS (23 - n) = s := Fin.ext (by show (23 - n) % 6 / 2 = s.val; omega)
  show dues c n + tallyAt (dueCell c (23 - n)) () (crd (lvl (ordP (23 - n)))) = _
  unfold dueCell
  rw [e1, e2, e3]

/-- Starting a copy: the piece goes with it, and the receiver's landing elements and whatever is let go besides. -/
theorem wp_start {Q : PUnit → sProp 𝕄} {sh : Shape} (p : Fin 4) (d : Fin 2) (s : Fin 3) (c n : Dev nD) (hn : n = nb (lvl p) d c)
    (src dst : Memref sig .tc .vmem sh .f32) (h₁ : src.view.WordExact) (h₂ : dst.view.WordExact) (m : ℕ)
    (hm : 23 - m = 6 * p.val + 2 * s.val + d.val) (hN : dst.view.dmaCredit = crd (lvl p))
    {fs : Buf (Elt F) (src.view.loc (c : Thread nD τ))} {fd : Buf (Elt F) (dst.view.loc (n : Thread nD τ))} {R : sProp 𝕄}
    (hp₁ : (src.view.loc (c : Thread nD τ) ↦[src.view.set]{fullShare} fs) ⊢ sendPay I p d s c)
    (hp₂ : iprop((dst.view.loc (n : Thread nD τ) ↦[dst.view.set]{fullShare} (dst.view.write (Elt F) fd (src.view.read (Elt F) fs) Finset.univ)) ∗ R) ⊢ recvPay I p d s n) :
    iprop(know I K ∗ (src.view.loc (c : Thread nD τ) ↦[src.view.set]{fullShare} fs)
        ∗ ((dst.view.loc (n : Thread nD τ) ↦[dst.view.set]{fullShare} fd) ∗ R) ∗ ow c (dues c (m + 1)) ∗ stk p d s c)
      ⊢ iprop(((sent p d s c ∗ ow c (dues c m)) -∗ WP c k Q) -∗ WP c (start p d s n src dst h₁ h₂ k) Q) := by
  subst hn
  unfold start stk ow sent
  iintro ⟨#HK, Hs, Hd, ⟨%W, HO⟩, HtS, HtR⟩ Hk
  iapply (Rounds.wp_send_pointsTo_with 𝒱₀ ER (sched I) (c : Thread nD τ) none (κ₁ := K (c, sendIx p d s)) (κ₂ := K (nb (lvl p) d c, recvIx p d s))
    (r₁ := 0) (r₂ := 0) (d₁ := (0, 0)) (d₂ := (0, 0)) (fd := fd) (F := R)
    (by rw [duties_dma I c _ (four_le_send p d s)]; exact Finset.mem_singleton_self _)
    (by rw [duties_dma I _ _ (four_le_recv p d s)]; exact Finset.mem_singleton_self _)
    () () (crd (lvl p)) (show dst.view.amount (.dma (recvS p d s)) = _ from hN) (amount_send I p d s c _) (amount_recv I p d s _ _) (dues c m) (due_at c p d s m hm) (W := W)
    (by rw [payload_send]; exact hp₁) (by rw [payload_recv]; exact hp₂)) $$ [Hs Hd HO HtS HtR]
  · isplitr; · iapply (know_send I K p d s c); iexact HK
    isplitr; · iapply (know_recv I K p d s _); iexact HK
    isplitl [Hs]; · iexact Hs
    isplitl [Hd]; · iexact Hd
    isplitl [HO]; · iexact HO
    isplitl [HtS]; · iexact HtS
    isplitr; · iapply (know_reached_send I K p d s c); iexact HK
    isplitl [HtR]; · iexact HtR
    iapply (know_reached_recv I K p d s _); iexact HK
  iintro ⟨Hc, HO⟩
  iapply Hk
  isplitl [Hc]; · iexact Hc
  iexists W; iexact HO

/-- Waiting for a copy's departure and arrival. -/
theorem wp_await {Q : PUnit → sProp 𝕄} {sh : Shape} (p : Fin 4) (d : Fin 2) (s : Fin 3) (c : Dev nD) (src dst : Memref sig .tc .vmem sh .f32)
    (h₁ : src.view.WordExact) (h₂ : dst.view.WordExact) (m : ℕ) (hm : m ≤ 24) (hl : 3 * p.val + s.val < (24 - m) / 2)
    (hN₁ : src.view.dmaCredit = crd (lvl p)) (hN₂ : dst.view.dmaCredit = crd (lvl p)) :
    iprop(know I K ∗ wtk p d s c ∗ sent p d s c ∗ ow c (dues c m))
      ⊢ iprop(((over p d s c ∗ ow c (dues c m) ∗ sendPay I p d s c ∗ recvPay I p d s c) -∗ WP c k Q) -∗ WP c (await p d s src dst h₁ h₂ k) Q) := by
  unfold await wtk sent ow over
  iintro ⟨#HK, ⟨HaS, HaR, HcR⟩, HcS, ⟨%W, HO⟩⟩ Hk
  iapply (Rounds.wp_wait_rest_token 𝒱₀ ER (sched I) (c : Thread nD τ) none (κ := K (c, sendIx p d s))
      (wpE_waitDma2_eq 𝒱₀ (c : Thread nD τ) none Set.univ) (Set.mem_univ _) () (O := dues c m) (W := W) (R := 0) (m := 0) (T := ∅)
      (by rw [expect_send, Nat.zero_add, hN₁])) $$ [HcS HO HaS]
  · isplitr; · iapply (know_send I K p d s c); iexact HK
    isplitl [HcS]; · rw [hN₁]; iexact HcS
    isplitl [HO]; · iexact HO
    isplitr
    · iapply (mayWait (F := F) c (.dma (sendS p d s)) m hm (by rw [lv_send]; omega)); iapply (know_lev I K); iexact HK
    iexact HaS
  rw [duties_dma I c _ (four_le_send p d s), Finset.sdiff_empty, bigSep_singleton, payload_send]
  iintro ⟨HO, HaS, -, HpS⟩
  iapply (Rounds.wp_wait_rest_token 𝒱₀ ER (sched I) (c : Thread nD τ) none (κ := K (c, recvIx p d s))
      (wpE_waitDma2_eq 𝒱₀ (c : Thread nD τ) none Set.univ) (Set.mem_univ _) () (O := dues c m) (R := 0) (m := 0) (T := ∅)
      (by rw [expect_recv, Nat.zero_add, hN₂])) $$ [HcR HO HaR]
  · isplitr; · iapply (know_recv I K p d s c); iexact HK
    isplitl [HcR]; · rw [hN₂]; iexact HcR
    isplitl [HO]; · iexact HO
    isplitr
    · iapply (mayWait (F := F) c (.dma (recvS p d s)) m hm (by rw [lv_recv]; omega)); iapply (know_lev I K); iexact HK
    iexact HaR
  rw [duties_dma I c _ (four_le_recv p d s), Finset.sdiff_empty, bigSep_singleton, payload_recv]
  iintro ⟨HO, HaR, -, HpR⟩
  imod (Rounds.cell_close ER (sched I) (Set.mem_univ (K (c, sendIx p d s))) (fun h => h) (R := 0 + 1) (duties_later I (sendCell p d s c))) $$ [HaS] with HzS
  · isplitr; · iapply (know_send I K p d s c); iexact HK
    iexact HaS
  imod (Rounds.cell_close ER (sched I) (Set.mem_univ (K (c, recvIx p d s))) (fun h => h) (R := 0 + 1) (duties_later I (recvCell p d s c))) $$ [HaR] with HzR
  · isplitr; · iapply (know_recv I K p d s c); iexact HK
    iexact HaR
  iapply Hk
  isplitl [HzS HzR]; · isplitl [HzS] <;> iassumption
  isplitl [HO]; · iexists _; iexact HO
  isplitl [HpS] <;> iassumption

end Cert.KernelIdeal.Moe
-- ==== Proof.KernelIdeal.Pieces.lean ====
/-
The steps' rules on the pieces of the two rings: copies started and waited for, received pieces added.
-/
module

public import proofs.«01_k».proof.Proof.KernelIdeal.Rules
public import Idealize.ShloMosaic.Lib.Pipeline.Value

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F) (K : Dev nD × Fin 49 → ℕ)

/-! ## The pieces as sets of elements -/

theorem piece0_set (d : Fin 2) (c : Dev nD) (i : Fin 4) (h) : (pc0 (pOff 0 d c i) h).view.set = pset 0 d c i :=
  (View.set_slice_whole _ _).trans (pset0_rect d c i)
theorem piece1_set (d : Fin 2) (c : Dev nD) (i : Fin 4) (h) : (pc1 (pOff 1 d c i) h).view.set = pset 1 d c i :=
  (View.set_slice_whole _ _).trans (pset1_rect d c i)

theorem outP_congr {c : Dev nD} {S : Finset S2048x1024.Idx} {f g : Out F} (h : ∀ x ∈ S, f x = g x) : outP c S f ⊢ outP c S g :=
  Entails.of_eq (pointsTo_congr h)

theorem write_read_on {sh : Shape} (v : View sig .tc .vmem sh .f32) (f g : v.ty.Contents (Elt F)) :
    ∀ x ∈ v.set, v.write (Elt F) g (v.read (Elt F) f) Finset.univ x = f x := by
  intro x hx
  rw [View.write_read_eq_piecewise]
  exact Finset.piecewise_eq_of_mem _ _ _ hx

theorem crd0 (d : Fin 2) (s : Fin 3) : (slot0 d s).view.dmaCredit = crd 0 := rfl
theorem crd1 (d : Fin 2) (s : Fin 3) : (slot1 d s).view.dmaCredit = crd 1 := rfl
theorem crdPc0 (o h) : (pc0 o h).view.dmaCredit = crd 0 := rfl
theorem crdPc1 (o h) : (pc1 o h).view.dmaCredit = crd 1 := rfl

/-- Holding a piece is holding its elements. -/
theorem at_piece0 (d : Fin 2) (c : Dev nD) (i : Fin 4) (h) (t : Dev nD) (f : Out F) :
    ((pc0 (pOff 0 d c i) h).view.loc (t : Thread nD τ) ↦[(pc0 (pOff 0 d c i) h).view.set]{fullShare} f : sProp 𝕄) = outP t (pset 0 d c i) f := by
  rw [piece0_set]; rfl
theorem at_piece1 (d : Fin 2) (c : Dev nD) (i : Fin 4) (h) (t : Dev nD) (f : Out F) :
    ((pc1 (pOff 1 d c i) h).view.loc (t : Thread nD τ) ↦[(pc1 (pOff 1 d c i) h).view.set]{fullShare} f : sProp 𝕄) = outP t (pset 1 d c i) f := by
  rw [piece1_set]; rfl

/-! ## Starting the copies of a reduce-scatter -/

theorem wp_startRS0 {Q : PUnit → sProp 𝕄} {k : Pg F} (d : Fin 2) (s : Fin 3) (c n : Dev nD) (hn : n = nb 0 d c) (o : Fin 2 → ℕ) (ho : o = pOff 0 d c s.castSucc) (h)
    (m : ℕ) (hm : 23 - m = 2 * s.val + d.val) (h₁ h₂) :
    iprop(know I K ∗ outP c (pset 0 d c s.castSucc) (acc I 0 d s.val c) ∗ slotAny 0 d s (nb 0 d c) ∗ grant 0 d s c ∗ ow c (dues c (m + 1)) ∗ stk 0 d s c)
      ⊢ iprop(((sent 0 d s c ∗ ow c (dues c m)) -∗ WP c k Q) -∗ WP c (start 0 d s n (pc0 o h) (slot0 d s) h₁ h₂ k) Q) := by
  subst ho hn
  have hL : lvl 0 = 0 := rfl
  unfold slotAny
  rw [if_pos rfl, ← at_piece0 d c s.castSucc h]
  iintro ⟨#HK, Ho, ⟨%g, Hg⟩, HR, HO, Ht⟩
  iapply (wp_start I K 0 d s c _ rfl (pc0 (pOff 0 d c s.castSucc) h) (slot0 d s) h₁ h₂ m (by rw [hm]; simp) (crd0 d s)
    (fs := acc I 0 d s.val c) (fd := g) (R := grant 0 d s c) ?_ ?_) $$ [Ho Hg HR HO Ht]
  · unfold sendPay; rw [if_pos (by decide), hL, at_piece0]
    iintro H; iexists _; iexact H
  · unfold recvPay landed; rw [if_pos (by decide), hL, src_nb, if_pos rfl]
    refine sep_mono_left ?_
    iintro H
    iexists _
    isplitr [H]; swap; · iexact H
    ipureintro; exact View.read_write_univ _ _
  isplitr; · iexact HK
  isplitl [Ho]; · iexact Ho
  isplitl [Hg HR]
  · isplitl [Hg]; · iexact Hg
    iexact HR
  isplitl [HO] <;> iassumption

theorem wp_startRS1 {Q : PUnit → sProp 𝕄} {k : Pg F} (d : Fin 2) (s : Fin 3) (c n : Dev nD) (hn : n = nb 1 d c) (o : Fin 2 → ℕ) (ho : o = pOff 1 d c s.castSucc) (h)
    (m : ℕ) (hm : 23 - m = 6 + 2 * s.val + d.val) (h₁ h₂) :
    iprop(know I K ∗ outP c (pset 1 d c s.castSucc) (acc I 1 d s.val c) ∗ slotAny 1 d s (nb 1 d c) ∗ grant 1 d s c ∗ ow c (dues c (m + 1)) ∗ stk 1 d s c)
      ⊢ iprop(((sent 1 d s c ∗ ow c (dues c m)) -∗ WP c k Q) -∗ WP c (start 1 d s n (pc1 o h) (slot1 d s) h₁ h₂ k) Q) := by
  subst ho hn
  have hL : lvl 1 = 1 := rfl
  unfold slotAny
  rw [if_neg (by decide), ← at_piece1 d c s.castSucc h]
  iintro ⟨#HK, Ho, ⟨%g, Hg⟩, HR, HO, Ht⟩
  iapply (wp_start I K 1 d s c _ rfl (pc1 (pOff 1 d c s.castSucc) h) (slot1 d s) h₁ h₂ m (by rw [hm]; simp) (crd1 d s)
    (fs := acc I 1 d s.val c) (fd := g) (R := grant 1 d s c) ?_ ?_) $$ [Ho Hg HR HO Ht]
  · unfold sendPay; rw [if_pos (by decide), hL, at_piece1]
    iintro H; iexists _; iexact H
  · unfold recvPay landed; rw [if_pos (by decide), hL, src_nb, if_neg (by decide)]
    refine sep_mono_left ?_
    iintro H
    iexists _
    isplitr [H]; swap; · iexact H
    ipureintro; exact View.read_write_univ _ _
  isplitr; · iexact HK
  isplitl [Ho]; · iexact Ho
  isplitl [Hg HR]
  · isplitl [Hg]; · iexact Hg
    iexact HR
  isplitl [HO] <;> iassumption

/-! ## Starting the copies of an all-gather -/

/-- The elements of the receiver's that a copy of an all-gather writes. -/
def room (l d : Fin 2) (t : Fin 3) (n : Dev nD) : sProp 𝕄 := iprop(∃ f, outP (F := F) n (pset l d n t.castSucc) f)

theorem pset_late (l d : Fin 2) (t : Fin 3) (c : Dev nD) : pset l d (nb l d c) t.castSucc = pset l d c (late t) := by
  rw [← late_succ, pset_nb]

theorem wp_startAG0 {Q : PUnit → sProp 𝕄} {k : Pg F} (d : Fin 2) (t : Fin 3) (c n : Dev nD) (hn : n = nb 0 d c) (o : Fin 2 → ℕ) (ho : o = pOff 0 d c (late t)) (h)
    (m : ℕ) (hm : 23 - m = 18 + 2 * t.val + d.val) (h₁ h₂) :
    iprop(know I K ∗ outP c (pset 0 d c (late t)) (fin I d) ∗ room 0 d t (nb 0 d c) ∗ grant 3 d t c ∗ ow c (dues c (m + 1)) ∗ stk 3 d t c)
      ⊢ iprop(((sent 3 d t c ∗ ow c (dues c m)) -∗ WP c k Q) -∗ WP c (start 3 d t n (pc0 o h) (pc0 o h) h₁ h₂ k) Q) := by
  subst ho hn
  have hL : lvl 3 = 0 := rfl
  unfold room
  rw [pset_late]
  iintro ⟨#HK, Ho, ⟨%g, Hg⟩, HR, HO, Ht⟩
  iapply (wp_start I K 3 d t c _ rfl (pc0 (pOff 0 d c (late t)) h) (pc0 (pOff 0 d c (late t)) h) h₁ h₂ m (by rw [hm]; simp) (crdPc0 _ _)
    (fs := fin I d) (fd := g) (R := grant 3 d t c) ?_ ?_) $$ [Ho Hg HR HO Ht]
  · unfold sendPay; rw [if_neg (by decide), hL, at_piece0]
  · unfold recvPay; rw [if_neg (by decide), hL, src_nb, pset_late]
    refine sep_mono_left ?_
    rw [at_piece0]
    exact outP_congr fun x hx => write_read_on (pc0 (pOff 0 d c (late t)) h).view (fin I d) g x (by rw [piece0_set]; exact hx)
  isplitr; · iexact HK
  isplitl [Ho]; · rw [at_piece0]; iexact Ho
  isplitl [Hg HR]
  · rw [at_piece0]
    isplitl [Hg]; · iexact Hg
    iexact HR
  isplitl [HO] <;> iassumption

theorem wp_startAG1 {Q : PUnit → sProp 𝕄} {k : Pg F} (d : Fin 2) (t : Fin 3) (c n : Dev nD) (hn : n = nb 1 d c) (o : Fin 2 → ℕ) (ho : o = pOff 1 d c (late t)) (h)
    (m : ℕ) (hm : 23 - m = 12 + 2 * t.val + d.val) (h₁ h₂) :
    iprop(know I K ∗ outP c (pset 1 d c (late t)) (fin I d) ∗ room 1 d t (nb 1 d c) ∗ grant 2 d t c ∗ ow c (dues c (m + 1)) ∗ stk 2 d t c)
      ⊢ iprop(((sent 2 d t c ∗ ow c (dues c m)) -∗ WP c k Q) -∗ WP c (start 2 d t n (pc1 o h) (pc1 o h) h₁ h₂ k) Q) := by
  subst ho hn
  have hL : lvl 2 = 1 := rfl
  unfold room
  rw [pset_late]
  iintro ⟨#HK, Ho, ⟨%g, Hg⟩, HR, HO, Ht⟩
  iapply (wp_start I K 2 d t c _ rfl (pc1 (pOff 1 d c (late t)) h) (pc1 (pOff 1 d c (late t)) h) h₁ h₂ m (by rw [hm]; simp) (crdPc1 _ _)
    (fs := fin I d) (fd := g) (R := grant 2 d t c) ?_ ?_) $$ [Ho Hg HR HO Ht]
  · unfold sendPay; rw [if_neg (by decide), hL, at_piece1]
  · unfold recvPay; rw [if_neg (by decide), hL, src_nb, pset_late]
    refine sep_mono_left ?_
    rw [at_piece1]
    exact outP_congr fun x hx => write_read_on (pc1 (pOff 1 d c (late t)) h).view (fin I d) g x (by rw [piece1_set]; exact hx)
  isplitr; · iexact HK
  isplitl [Ho]; · rw [at_piece1]; iexact Ho
  isplitl [Hg HR]
  · rw [at_piece1]
    isplitl [Hg]; · iexact Hg
    iexact HR
  isplitl [HO] <;> iassumption

/-! ## Waiting -/

theorem wp_awaitRS0 {Q : PUnit → sProp 𝕄} {k : Pg F} (d : Fin 2) (s : Fin 3) (c : Dev nD) (o : Fin 2 → ℕ) (h) (m : ℕ) (hm : m ≤ 24) (hl : s.val < (24 - m) / 2) (h₁ h₂) :
    iprop(know I K ∗ wtk 0 d s c ∗ sent 0 d s c ∗ ow c (dues c m))
      ⊢ iprop(((over 0 d s c ∗ ow c (dues c m) ∗ (∃ f, outP c (pset 0 d c s.castSucc) f) ∗ landed I 0 d s (src 0 d c) c ∗ grant 0 d s (src 0 d c)) -∗ WP c k Q)
        -∗ WP c (await 0 d s (pc0 o h) (slot0 d s) h₁ h₂ k) Q) :=
  wp_await I K 0 d s c (pc0 o h) (slot0 d s) h₁ h₂ m hm (by simpa using hl) (crdPc0 _ _) (crd0 _ _)

theorem wp_awaitRS1 {Q : PUnit → sProp 𝕄} {k : Pg F} (d : Fin 2) (s : Fin 3) (c : Dev nD) (o : Fin 2 → ℕ) (h) (m : ℕ) (hm : m ≤ 24) (hl : 3 + s.val < (24 - m) / 2) (h₁ h₂) :
    iprop(know I K ∗ wtk 1 d s c ∗ sent 1 d s c ∗ ow c (dues c m))
      ⊢ iprop(((over 1 d s c ∗ ow c (dues c m) ∗ (∃ f, outP c (pset 1 d c s.castSucc) f) ∗ landed I 1 d s (src 1 d c) c ∗ grant 1 d s (src 1 d c)) -∗ WP c k Q)
        -∗ WP c (await 1 d s (pc1 o h) (slot1 d s) h₁ h₂ k) Q) :=
  wp_await I K 1 d s c (pc1 o h) (slot1 d s) h₁ h₂ m hm (by simpa using hl) (crdPc1 _ _) (crd1 _ _)

theorem wp_awaitAG1 {Q : PUnit → sProp 𝕄} {k : Pg F} (d : Fin 2) (s : Fin 3) (c : Dev nD) (o : Fin 2 → ℕ) (h) (m : ℕ) (hm : m ≤ 24) (hl : 6 + s.val < (24 - m) / 2) (h₁ h₂) :
    iprop(know I K ∗ wtk 2 d s c ∗ sent 2 d s c ∗ ow c (dues c m))
      ⊢ iprop(((over 2 d s c ∗ ow c (dues c m) ∗ outP c (pset 1 d c (late s)) (fin I d) ∗ outP c (pset 1 d c s.castSucc) (fin I d) ∗ grant 2 d s (src 1 d c)) -∗ WP c k Q)
        -∗ WP c (await 2 d s (pc1 o h) (pc1 o h) h₁ h₂ k) Q) :=
  wp_await I K 2 d s c (pc1 o h) (pc1 o h) h₁ h₂ m hm (by simpa using hl) (crdPc1 _ _) (crdPc1 _ _)

theorem wp_awaitAG0 {Q : PUnit → sProp 𝕄} {k : Pg F} (d : Fin 2) (s : Fin 3) (c : Dev nD) (o : Fin 2 → ℕ) (h) (m : ℕ) (hm : m ≤ 24) (hl : 9 + s.val < (24 - m) / 2) (h₁ h₂) :
    iprop(know I K ∗ wtk 3 d s c ∗ sent 3 d s c ∗ ow c (dues c m))
      ⊢ iprop(((over 3 d s c ∗ ow c (dues c m) ∗ outP c (pset 0 d c (late s)) (fin I d) ∗ outP c (pset 0 d c s.castSucc) (fin I d) ∗ grant 3 d s (src 0 d c)) -∗ WP c k Q)
        -∗ WP c (await 3 d s (pc0 o h) (pc0 o h) h₁ h₂ k) Q) :=
  wp_await I K 3 d s c (pc0 o h) (pc0 o h) h₁ h₂ m hm (by simpa using hl) (crdPc0 _ _) (crdPc0 _ _)

/-! ## Adding a received piece -/

theorem slot_any0 (d : Fin 2) (s : Fin 3) (c : Dev nD) (g) :
    ((slot0 d s).view.loc (c : Thread nD τ) ↦[(slot0 d s).view.set]{fullShare} g : sProp 𝕄) ⊢ slotAny 0 d s c := by
  unfold slotAny; rw [if_pos rfl]
  iintro H; iexists g; iexact H
theorem slot_any1 (d : Fin 2) (s : Fin 3) (c : Dev nD) (g) :
    ((slot1 d s).view.loc (c : Thread nD τ) ↦[(slot1 d s).view.set]{fullShare} g : sProp 𝕄) ⊢ slotAny 1 d s c := by
  unfold slotAny; rw [if_neg (by decide)]
  iintro H; iexists g; iexact H

/-- The value stored, on the piece. -/
theorem accum0_val (d : Fin 2) (s : Fin 3) (c : Dev nD) (h) (g : (slot0 d s).view.ty.Contents (Elt F))
    (hg : (slot0 d s).view.read (Elt F) g = (piece0 d (src 0 d c) s.castSucc).view.read (Elt F) (acc I 0 d s.val (src 0 d c))) :
    ∀ x ∈ pset 0 d c s.succ,
      (outM.access (rct0 (pOff 0 d c s.succ) h)).write (Elt F) (acc I 0 d 0 c)
        (addf (shapeCast S512x512 ((outM : Memref sig .tc .vmem S2048x1024 .f32).view.readAt (Elt F) (rct0 (pOff 0 d c s.succ) h).toLoadRect (acc I 0 d 0 c)) shapeCasts_S512x512_S512x512)
          (shapeCast S512x512 ((bufP : Memref sig .tc .vmem S2x3x512x512 .f32).view.readAt (Elt F) (srect0 d s).toLoadRect g) shapeCasts_S1x1x512x512_S512x512)) Finset.univ x
        = acc I 0 d (s.val + 1) c x := by
  intro x hx
  rw [← pset0_rect, ← Rect.map_emb_univ] at hx
  obtain ⟨j, -, rfl⟩ := Finset.mem_map.1 hx
  have e : pOff 0 d (src 0 d c) s.castSucc = pOff 0 d c s.succ := by rw [← castSucc_succ, ← pOff_nb, nb_src]
  refine (View.write_emb_of_mem (Val := Elt F) (v := outM.access (rct0 (pOff 0 d c s.succ) h)) _ _ (Finset.mem_univ j)).trans ?_
  have h2 : (piece0 d (src 0 d c) s.castSucc).view.read (Elt F) (acc I 0 d s.val (src 0 d c)) j
      = acc I 0 d s.val (src 0 d c) ((rct0 (pOff 0 d c s.succ) h).emb j) := by
    show acc I 0 d s.val (src 0 d c) ((rct0 (pOff 0 d (src 0 d c) s.castSucc) _).emb j) = _
    congr 1
    refine funext fun a => Fin.ext ?_
    show pOff 0 d (src 0 d c) s.castSucc a + 1 * (j a).val = pOff 0 d c s.succ a + 1 * (j a).val
    rw [e]
  exact congrArg₂ (FloatOps.addf (F := F) (φ := .f32))
    (congrFun (shapeCast_self ((outM : Memref sig .tc .vmem S2048x1024 .f32).view.readAt (Elt F) (rct0 (pOff 0 d c s.succ) h).toLoadRect (acc I 0 d 0 c))
      shapeCasts_S512x512_S512x512) j) ((congrFun hg j).trans h2)

theorem accum1_val (d : Fin 2) (s : Fin 3) (c : Dev nD) (h) (g : (slot1 d s).view.ty.Contents (Elt F))
    (hg : (slot1 d s).view.read (Elt F) g = (piece1 d (src 1 d c) s.castSucc).view.read (Elt F) (acc I 1 d s.val (src 1 d c))) :
    ∀ x ∈ pset 1 d c s.succ,
      (outM.access (rct1 (pOff 1 d c s.succ) h)).write (Elt F) (acc I 1 d 0 c)
        (addf (shapeCast S128x512 ((outM : Memref sig .tc .vmem S2048x1024 .f32).view.readAt (Elt F) (rct1 (pOff 1 d c s.succ) h).toLoadRect (acc I 1 d 0 c)) shapeCasts_S128x512_S128x512)
          (shapeCast S128x512 ((bufZ : Memref sig .tc .vmem S2x3x128x512 .f32).view.readAt (Elt F) (srect1 d s).toLoadRect g) shapeCasts_S1x1x128x512_S128x512)) Finset.univ x
        = acc I 1 d (s.val + 1) c x := by
  intro x hx
  rw [← pset1_rect, ← Rect.map_emb_univ] at hx
  obtain ⟨j, -, rfl⟩ := Finset.mem_map.1 hx
  have e : pOff 1 d (src 1 d c) s.castSucc = pOff 1 d c s.succ := by rw [← castSucc_succ, ← pOff_nb, nb_src]
  refine (View.write_emb_of_mem (Val := Elt F) (v := outM.access (rct1 (pOff 1 d c s.succ) h)) _ _ (Finset.mem_univ j)).trans ?_
  have h2 : (piece1 d (src 1 d c) s.castSucc).view.read (Elt F) (acc I 1 d s.val (src 1 d c)) j
      = acc I 1 d s.val (src 1 d c) ((rct1 (pOff 1 d c s.succ) h).emb j) := by
    show acc I 1 d s.val (src 1 d c) ((rct1 (pOff 1 d (src 1 d c) s.castSucc) _).emb j) = _
    congr 1
    refine funext fun a => Fin.ext ?_
    show pOff 1 d (src 1 d c) s.castSucc a + 1 * (j a).val = pOff 1 d c s.succ a + 1 * (j a).val
    rw [e]
  exact congrArg₂ (FloatOps.addf (F := F) (φ := .f32))
    (congrFun (shapeCast_self ((outM : Memref sig .tc .vmem S2048x1024 .f32).view.readAt (Elt F) (rct1 (pOff 1 d c s.succ) h).toLoadRect (acc I 1 d 0 c))
      shapeCasts_S128x512_S128x512) j) ((congrFun hg j).trans h2)

theorem wp_accum0 {Q : PUnit → sProp 𝕄} {k : Pg F} (d : Fin 2) (s : Fin 3) (c : Dev nD) (o : Fin 2 → ℕ) (ho : o = pOff 0 d c s.succ) (h) :
    iprop(outP c (pset 0 d c s.succ) (acc I 0 d 0 c) ∗ landed I 0 d s (src 0 d c) c)
      ⊢ iprop(((outP c (pset 0 d c s.succ) (acc I 0 d (s.val + 1) c) ∗ slotAny 0 d s c) -∗ WP c k Q) -∗ WP c (accum0 d s o h k) Q) := by
  subst ho
  unfold landed accum0
  rw [if_pos rfl, ← at_piece0 d c s.succ h]
  iintro ⟨Ho, ⟨%g, %hg, Hg⟩⟩ Hk
  iapply (wp_load 𝒱₀ (c : Thread nD τ) none Set.univ (m := outM) (le_of_eq (View.set_slice _ _).symm)) $$ Ho; iintro Ho
  iapply (wp_load 𝒱₀ (c : Thread nD τ) none Set.univ (m := bufP) (S := (slot0 d s).view.set) (by rw [View.set_reshape]; exact le_of_eq (View.set_slice _ _).symm)) $$ Hg; iintro Hg
  iapply (wp_load 𝒱₀ (c : Thread nD τ) none Set.univ (m := outM) (le_of_eq (View.set_slice _ _).symm)) $$ Ho; iintro Ho
  iapply (wp_store 𝒱₀ (c : Thread nD τ) none Set.univ (m := outM) (r := rct0 (pOff 0 d c s.succ) h) (S := (pc0 (pOff 0 d c s.succ) h).view.set) (le_of_eq rfl)) $$ Ho; iintro Ho
  iapply Hk
  isplitl [Ho]
  · iapply (outP_congr (accum0_val I d s c h g hg))
    rw [← at_piece0 d c s.succ h]
    iexact Ho
  iapply (slot_any0 d s c g); iexact Hg

theorem wp_accum1 {Q : PUnit → sProp 𝕄} {k : Pg F} (d : Fin 2) (s : Fin 3) (c : Dev nD) (o : Fin 2 → ℕ) (ho : o = pOff 1 d c s.succ) (h) :
    iprop(outP c (pset 1 d c s.succ) (acc I 1 d 0 c) ∗ landed I 1 d s (src 1 d c) c)
      ⊢ iprop(((outP c (pset 1 d c s.succ) (acc I 1 d (s.val + 1) c) ∗ slotAny 1 d s c) -∗ WP c k Q) -∗ WP c (accum1 d s o h k) Q) := by
  subst ho
  unfold landed accum1
  rw [if_neg (by decide), ← at_piece1 d c s.succ h]
  iintro ⟨Ho, ⟨%g, %hg, Hg⟩⟩ Hk
  iapply (wp_load 𝒱₀ (c : Thread nD τ) none Set.univ (m := outM) (le_of_eq (View.set_slice _ _).symm)) $$ Ho; iintro Ho
  iapply (wp_load 𝒱₀ (c : Thread nD τ) none Set.univ (m := bufZ) (S := (slot1 d s).view.set) (by rw [View.set_reshape]; exact le_of_eq (View.set_slice _ _).symm)) $$ Hg; iintro Hg
  iapply (wp_load 𝒱₀ (c : Thread nD τ) none Set.univ (m := outM) (le_of_eq (View.set_slice _ _).symm)) $$ Ho; iintro Ho
  iapply (wp_store 𝒱₀ (c : Thread nD τ) none Set.univ (m := outM) (r := rct1 (pOff 1 d c s.succ) h) (S := (pc1 (pOff 1 d c s.succ) h).view.set) (le_of_eq rfl)) $$ Ho; iintro Ho
  iapply Hk
  isplitl [Ho]
  · iapply (outP_congr (accum1_val I d s c h g hg))
    rw [← at_piece1 d c s.succ h]
    iexact Ho
  iapply (slot_any1 d s c g); iexact Hg

end Cert.KernelIdeal.Moe
-- ==== Proof.KernelIdeal.Split.lean ====
/-
The result buffer taken apart into the rings' pieces and put together again.
-/
module

public import proofs.«01_k».proof.Proof.KernelIdeal.Rules

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F)

theorem outP_eqv {c : Dev nD} {S : Finset S2048x1024.Idx} {f g : Out F} (h : ∀ x ∈ S, f x = g x) : (outP c S f : sProp 𝕄) = outP c S g :=
  pointsTo_congr h

theorem outP_two (c : Dev nD) {S A B : Finset S2048x1024.Idx} (f : Out F) (hS : S = A ∪ B) (hd : Disjoint A B) :
    (outP c S f : sProp 𝕄) ⊣⊢ iprop(outP c A f ∗ outP c B f) := by
  subst hS; exact pointsTo_union hd

/-! ## Rows into the two halves of the columns -/

theorem rows_halves (b h : ℕ) : rows b h = box b h 0 ∪ box b h 1 := by
  ext x
  have := col_lt x
  rw [Finset.mem_union, mem_rows, mem_box, mem_box]
  show _ ↔ (_ ∧ _ ∧ col x / 512 = 0) ∨ (_ ∧ _ ∧ col x / 512 = 1)
  omega

theorem halves_disjoint (b h b' h' : ℕ) : Disjoint (box b h 0) (box b' h' 1) := by
  refine Finset.disjoint_left.2 fun x h1 h2 => ?_
  have e1 : col x / 512 = 0 := (mem_box.1 h1).2.2
  have e2 : col x / 512 = 1 := (mem_box.1 h2).2.2
  omega

/-- The group of rows `j` groups on from the device's own. -/
def grp (c : Dev nD) (j : Fin 4) : Fin 4 := ⟨(c.val % 4 + j.val) % 4, Nat.mod_lt _ (by decide)⟩

/-- A group's rows. -/
def gset (c : Dev nD) (j : Fin 4) : Finset S2048x1024.Idx := rows (512 * (grp c j).val) 512

theorem rowB_grp : ∀ (c : Dev nD) (j : Fin 4), rowB 0 0 c (-j) = 512 * (grp c j).val ∧ rowB 0 1 c j = 512 * (grp c j).val := by decide +kernel

theorem gset_pieces (c : Dev nD) (j : Fin 4) : gset c j = pset 0 0 c (-j) ∪ pset 0 1 c j := by
  unfold gset pset
  rw [(rowB_grp c j).1, (rowB_grp c j).2]
  exact rows_halves _ _

theorem gset_out (c : Dev nD) (j : Fin 4) (f : Out F) :
    (outP c (gset c j) f : sProp 𝕄) ⊣⊢ iprop(outP c (pset 0 0 c (-j)) f ∗ outP c (pset 0 1 c j) f) :=
  outP_two c f (gset_pieces c j) (halves_disjoint _ _ _ _)

/-! ## The whole into the four groups -/

theorem rows_disjoint {b h b' h' : ℕ} (hd : b + h ≤ b' ∨ b' + h' ≤ b) : Disjoint (rows b h) (rows b' h') := by
  refine Finset.disjoint_left.2 fun x h1 h2 => ?_
  have e1 := mem_rows.1 h1
  have e2 := mem_rows.1 h2
  omega

theorem gset_disjoint (c : Dev nD) {j j' : Fin 4} (h : j ≠ j') : Disjoint (gset c j) (gset c j') := by
  refine rows_disjoint ?_
  have hj : j.val ≠ j'.val := fun e => h (Fin.ext e)
  show 512 * ((c.val % 4 + j.val) % 4) + 512 ≤ 512 * ((c.val % 4 + j'.val) % 4) ∨ 512 * ((c.val % 4 + j'.val) % 4) + 512 ≤ 512 * ((c.val % 4 + j.val) % 4)
  omega

theorem univ_groups (c : Dev nD) : (Finset.univ : Finset S2048x1024.Idx) = gset c 0 ∪ (gset c 1 ∪ (gset c 2 ∪ gset c 3)) := by
  ext x
  have := row_lt x
  simp only [Finset.mem_univ, Finset.mem_union, gset, mem_rows, true_iff]
  show (512 * ((c.val % 4 + 0) % 4) ≤ row x ∧ row x < 512 * ((c.val % 4 + 0) % 4) + 512)
    ∨ (512 * ((c.val % 4 + 1) % 4) ≤ row x ∧ row x < 512 * ((c.val % 4 + 1) % 4) + 512)
    ∨ (512 * ((c.val % 4 + 2) % 4) ≤ row x ∧ row x < 512 * ((c.val % 4 + 2) % 4) + 512)
    ∨ (512 * ((c.val % 4 + 3) % 4) ≤ row x ∧ row x < 512 * ((c.val % 4 + 3) % 4) + 512)
  omega

theorem whole_groups (c : Dev nD) (f : Out F) :
    (outP c Finset.univ f : sProp 𝕄) ⊣⊢ iprop(outP c (gset c 0) f ∗ outP c (gset c 1) f ∗ outP c (gset c 2) f ∗ outP c (gset c 3) f) := by
  have d01 : Disjoint (gset c 0) (gset c 1) := gset_disjoint c (by decide)
  have d02 : Disjoint (gset c 0) (gset c 2) := gset_disjoint c (by decide)
  have d03 : Disjoint (gset c 0) (gset c 3) := gset_disjoint c (by decide)
  have d12 : Disjoint (gset c 1) (gset c 2) := gset_disjoint c (by decide)
  have d13 : Disjoint (gset c 1) (gset c 3) := gset_disjoint c (by decide)
  have d23 : Disjoint (gset c 2) (gset c 3) := gset_disjoint c (by decide)
  have h1 := outP_two c f (univ_groups c) (Finset.disjoint_union_right.2 ⟨d01, Finset.disjoint_union_right.2 ⟨d02, d03⟩⟩)
  have h2 := outP_two c f (S := gset c 1 ∪ (gset c 2 ∪ gset c 3)) rfl (Finset.disjoint_union_right.2 ⟨d12, d13⟩)
  have h3 := outP_two c f (S := gset c 2 ∪ gset c 3) rfl d23
  exact ⟨h1.1.trans (sep_mono_right (h2.1.trans (sep_mono_right h3.1))), (sep_mono_right ((sep_mono_right h3.2).trans h2.2)).trans h1.2⟩

/-! ## A plane piece into the four pieces of the other ring -/

theorem rowB_quarter : ∀ (d : Fin 2) (c : Dev nD) (i : Fin 4),
    rowB 1 d c i = rowB 0 d c 3 + 128 * (back d (c.val / 4) i.val) := by decide +kernel

theorem quarter_disjoint : ∀ (d : Fin 2) (c : Dev nD) (i i' : Fin 4), i ≠ i' → rowB 1 d c i + 128 ≤ rowB 1 d c i' ∨ rowB 1 d c i' + 128 ≤ rowB 1 d c i := by
  decide +kernel

theorem quarter_cover : ∀ (d : Fin 2) (c : Dev nD) (q : Fin 4), ∃ i : Fin 4, rowB 1 d c i = rowB 0 d c 3 + 128 * q.val := by decide +kernel

theorem quarter_in : ∀ (d : Fin 2) (c : Dev nD) (i : Fin 4), rowB 0 d c 3 ≤ rowB 1 d c i ∧ rowB 1 d c i + 128 ≤ rowB 0 d c 3 + 512 := by decide +kernel

theorem pset1_disjoint (d : Fin 2) (c : Dev nD) {i i' : Fin 4} (h : i ≠ i') : Disjoint (pset 1 d c i) (pset 1 d c i') := by
  refine Finset.disjoint_left.2 fun x h1 h2 => ?_
  obtain ⟨a1, a2, -⟩ := mem_box.1 h1
  obtain ⟨b1, b2, -⟩ := mem_box.1 h2
  have := quarter_disjoint d c i i' h
  have hh : hgt 1 = 128 := rfl
  rw [hh] at a2 b2
  omega

theorem pset0_quarters (d : Fin 2) (c : Dev nD) : pset 0 d c 3 = pset 1 d c 0 ∪ (pset 1 d c 1 ∪ (pset 1 d c 2 ∪ pset 1 d c 3)) := by
  ext x
  have h0 : hgt 0 = 512 := rfl
  have h1 : hgt 1 = 128 := rfl
  simp only [Finset.mem_union, pset, mem_box, h0, h1]
  constructor
  · rintro ⟨a, b, e⟩
    obtain ⟨i, hi⟩ := quarter_cover d c ⟨(row x - rowB 0 d c 3) / 128, by omega⟩
    have hi' : rowB 1 d c i = rowB 0 d c 3 + 128 * ((row x - rowB 0 d c 3) / 128) := hi
    have : rowB 1 d c i ≤ row x ∧ row x < rowB 1 d c i + 128 ∧ col x / 512 = d.val := ⟨by omega, by omega, e⟩
    fin_cases i
    · exact Or.inl this
    · exact Or.inr (Or.inl this)
    · exact Or.inr (Or.inr (Or.inl this))
    · exact Or.inr (Or.inr (Or.inr this))
  · have k0 := quarter_in d c 0
    have k1 := quarter_in d c 1
    have k2 := quarter_in d c 2
    have k3 := quarter_in d c 3
    rintro (h | h | h | h)
    all_goals exact ⟨by omega, by omega, h.2.2⟩

theorem piece_quarters (d : Fin 2) (c : Dev nD) (f : Out F) :
    (outP c (pset 0 d c 3) f : sProp 𝕄) ⊣⊢ iprop(outP c (pset 1 d c 0) f ∗ outP c (pset 1 d c 1) f ∗ outP c (pset 1 d c 2) f ∗ outP c (pset 1 d c 3) f) := by
  have d01 : Disjoint (pset 1 d c 0) (pset 1 d c 1) := pset1_disjoint d c (by decide)
  have d02 : Disjoint (pset 1 d c 0) (pset 1 d c 2) := pset1_disjoint d c (by decide)
  have d03 : Disjoint (pset 1 d c 0) (pset 1 d c 3) := pset1_disjoint d c (by decide)
  have d12 : Disjoint (pset 1 d c 1) (pset 1 d c 2) := pset1_disjoint d c (by decide)
  have d13 : Disjoint (pset 1 d c 1) (pset 1 d c 3) := pset1_disjoint d c (by decide)
  have d23 : Disjoint (pset 1 d c 2) (pset 1 d c 3) := pset1_disjoint d c (by decide)
  have h1 := outP_two c f (pset0_quarters d c) (Finset.disjoint_union_right.2 ⟨d01, Finset.disjoint_union_right.2 ⟨d02, d03⟩⟩)
  have h2 := outP_two c f (S := pset 1 d c 1 ∪ (pset 1 d c 2 ∪ pset 1 d c 3)) rfl (Finset.disjoint_union_right.2 ⟨d12, d13⟩)
  have h3 := outP_two c f (S := pset 1 d c 2 ∪ pset 1 d c 3) rfl d23
  exact ⟨h1.1.trans (sep_mono_right (h2.1.trans (sep_mono_right h3.1))), (sep_mono_right ((sep_mono_right h3.2).trans h2.2)).trans h1.2⟩

/-! ## The finished pieces make the finished result -/

theorem group_done (c : Dev nD) (j : Fin 4) :
    iprop(outP c (pset 0 0 c (-j)) (fin I 0) ∗ outP c (pset 0 1 c j) (fin I 1)) ⊢ (outP c (gset c j) (result I) : sProp 𝕄) := by
  rw [outP_eqv (fin_result I 0 c (-j)), outP_eqv (fin_result I 1 c j)]
  exact (gset_out c j (result I)).2

/-- All eight pieces finished: the whole result. -/
theorem all_done (c : Dev nD) :
    iprop((outP c (pset 0 0 c 0) (fin I 0) ∗ outP c (pset 0 0 c 1) (fin I 0) ∗ outP c (pset 0 0 c 2) (fin I 0) ∗ outP c (pset 0 0 c 3) (fin I 0))
        ∗ (outP c (pset 0 1 c 0) (fin I 1) ∗ outP c (pset 0 1 c 1) (fin I 1) ∗ outP c (pset 0 1 c 2) (fin I 1) ∗ outP c (pset 0 1 c 3) (fin I 1)))
      ⊢ (outP c Finset.univ (result I) : sProp 𝕄) := by
  iintro ⟨⟨A0, A1, A2, A3⟩, B0, B1, B2, B3⟩
  iapply (whole_groups c (result I)).2
  isplitl [A0 B0]; · iapply (group_done I c 0); isplitl [A0]; · iexact A0
                     iexact B0
  isplitl [A3 B1]; · iapply (group_done I c 1); isplitl [A3]; · iexact A3
                     iexact B1
  isplitl [A2 B2]; · iapply (group_done I c 2); isplitl [A2]; · iexact A2
                     iexact B2
  iapply (group_done I c 3); isplitl [A1]; · iexact A1
  iexact B3

end Cert.KernelIdeal.Moe
-- ==== Proof.KernelIdeal.Compute.lean ====
/-
The rules of the other steps: the groups of rows computed, and the entry handshake.
-/
module

public import proofs.«01_k».proof.Proof.KernelIdeal.Split

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F) (K : Dev nD × Fin 49 → ℕ)

/-! ## Chunks of rows -/

/-- The device's three inputs, staged. -/
def inP (c : Dev nD) : sProp 𝕄 :=
  iprop((((c : Thread nD τ).loc cc0_stg0_0) ↦{fullShare} (I c).x) ∗ (((c : Thread nD τ).loc cc0_stg1_0) ↦{fullShare} (I c).i)
    ∗ (((c : Thread nD τ).loc cc0_stg2_0) ↦{fullShare} (I c).w))

theorem chunk_set (b : Fin 16) (h) : (Rect.unit (s := S2048x1024) ![128 * b.val, 0] S128x1024.size h).set = rows (128 * b.val) 128 := by
  ext x
  have := col_lt x
  rw [Rect.mem_set_unit, mem_rows]
  constructor
  · intro hm; exact hm 0
  · intro hm a
    fin_cases a
    · exact hm
    · show 0 ≤ col x ∧ col x < 0 + 1024
      omega

/-- A result with the rows of one chunk computed. -/
def setChunk (c : Dev nD) (b : Fin 16) (f : Out F) : Out F := fun x : S2048x1024.Idx => if x ∈ rows (128 * b.val) 128 then part I c x else f x

theorem write_chunk (c : Dev nD) (b : Fin 16) (h) (f : Out F) :
    (outM.access (Rect.unit (s := S2048x1024) ![128 * b.val, 0] S128x1024.size h)).write (Elt F) f (chunkAt I c b) Finset.univ = setChunk I c b f := by
  funext x
  by_cases hx : x ∈ rows (128 * b.val) 128
  · refine Eq.trans ?_ (show part I c x = setChunk I c b f x from (if_pos hx).symm)
    rw [← chunk_set b h, ← Rect.map_emb_univ] at hx
    obtain ⟨j, -, rfl⟩ := Finset.mem_map.1 hx
    refine (View.write_emb_of_mem (Val := Elt F) (v := outM.access (Rect.unit (s := S2048x1024) ![128 * b.val, 0] S128x1024.size h)) _ _ (Finset.mem_univ j)).trans ?_
    exact (part_chunk I c b j).symm
  · refine Eq.trans (View.write_of_not_mem _ _ _ ?_) (show f x = setChunk I c b f x from (if_neg hx).symm)
    intro hm
    exact hx ((Finset.ext_iff.1 ((View.set_slice_whole cc0_stg3_0 (Rect.unit (s := S2048x1024) ![128 * b.val, 0] S128x1024.size h)).trans (chunk_set b h)) x).1 hm)

theorem wp_chunk {Q : PUnit → sProp 𝕄} {k : Pg F} (c : Dev nD) (b : Fin 16) (ox oi oo : Fin 2 → ℕ) (hx hi ho)
    (ex : ox = ![128 * b.val, 0]) (ei : oi = ![128 * b.val, 0]) (eo : oo = ![128 * b.val, 0]) (S : Finset S2048x1024.Idx) (hS : rows (128 * b.val) 128 ⊆ S) (f : Out F) :
    iprop(inP I c ∗ outP c S f)
      ⊢ iprop(((inP I c ∗ outP c S (setChunk I c b f)) -∗ WP c k Q) -∗ WP c (chunk (devW c) ox oi oo hx hi ho k) Q) := by
  subst ex ei eo
  have hS' : ((outM : Memref sig .tc .vmem S2048x1024 .f32).view.slice (Rect.unit (s := S2048x1024) ![128 * b.val, 0] S128x1024.size ho)).set ⊆ S := by
    rw [View.set_slice_whole, chunk_set b ho]; exact hS
  unfold chunk inP outP
  rw [← write_chunk I c b ho f]
  iintro ⟨⟨Hx, Hi, Hw⟩, Ho⟩ Hk
  iapply (wp_load 𝒱₀ (c : Thread nD τ) none Set.univ (m := xM) (Finset.subset_univ _)) $$ Hx; iintro Hx
  iapply (wp_load 𝒱₀ (c : Thread nD τ) none Set.univ (m := idxM) (Finset.subset_univ _)) $$ Hi; iintro Hi
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := outM) (S := S) (by rw [View.set_slice] at hS'; exact hS')) $$ Ho; iintro Ho
  iapply (wp_store 𝒱₀ (c : Thread nD τ) none Set.univ (m := outM) (r := Rect.unit (s := S2048x1024) ![128 * b.val, 0] S128x1024.size ho) (S := S) hS') $$ Ho; iintro Ho
  iapply Hk
  isplitl [Hx Hi Hw]
  · isplitl [Hx]; · iexact Hx
    isplitl [Hi] <;> iassumption
  iexact Ho

/-- A group's four chunks: its rows computed. -/
theorem wp_group {Q : PUnit → sProp 𝕄} {k : Pg F} (c : Dev nD) (g : Fin 4) (ox oi oo : Fin 4 → Fin 2 → ℕ) (hx hi ho)
    (ex : ∀ r : Fin 4, ox r = ![512 * g.val + 128 * r.val, 0]) (ei : ∀ r : Fin 4, oi r = ![512 * g.val + 128 * r.val, 0])
    (eo : ∀ r : Fin 4, oo r = ![512 * g.val + 128 * r.val, 0]) (f : Out F) :
    iprop(inP I c ∗ outP c (rows (512 * g.val) 512) f)
      ⊢ iprop(((inP I c ∗ outP c (rows (512 * g.val) 512) (part I c)) -∗ WP c k Q) -∗ WP c (group c ox oi oo hx hi ho k) Q) := by
  have bn : ∀ r : Fin 4, 4 * g.val + r.val < 16 := fun r => by omega
  have be : ∀ r : Fin 4, (![512 * g.val + 128 * r.val, 0] : Fin 2 → ℕ) = ![128 * (⟨4 * g.val + r.val, bn r⟩ : Fin 16).val, 0] := fun r => by
    show _ = ![128 * (4 * g.val + r.val), 0]
    rw [show 128 * (4 * g.val + r.val) = 512 * g.val + 128 * r.val from by omega]
  have bs : ∀ r : Fin 4, rows (128 * (⟨4 * g.val + r.val, bn r⟩ : Fin 16).val) 128 ⊆ rows (512 * g.val) 512 := fun r x hx => by
    have h : 128 * (4 * g.val + r.val) ≤ row x ∧ row x < 128 * (4 * g.val + r.val) + 128 := mem_rows.1 hx
    exact mem_rows.2 (by omega)
  unfold group
  iintro ⟨Hi, Ho⟩ Hk
  iapply (wp_chunk I c ⟨4 * g.val + (0 : Fin 4).val, bn 0⟩ _ _ _ _ _ _ ((ex 0).trans (be 0)) ((ei 0).trans (be 0)) ((eo 0).trans (be 0)) _ (bs 0) f) $$ [Hi Ho]
  · isplitl [Hi] <;> iassumption
  iintro ⟨Hi, Ho⟩
  iapply (wp_chunk I c ⟨4 * g.val + (1 : Fin 4).val, bn 1⟩ _ _ _ _ _ _ ((ex 1).trans (be 1)) ((ei 1).trans (be 1)) ((eo 1).trans (be 1)) _ (bs 1) _) $$ [Hi Ho]
  · isplitl [Hi] <;> iassumption
  iintro ⟨Hi, Ho⟩
  iapply (wp_chunk I c ⟨4 * g.val + (2 : Fin 4).val, bn 2⟩ _ _ _ _ _ _ ((ex 2).trans (be 2)) ((ei 2).trans (be 2)) ((eo 2).trans (be 2)) _ (bs 2) _) $$ [Hi Ho]
  · isplitl [Hi] <;> iassumption
  iintro ⟨Hi, Ho⟩
  iapply (wp_chunk I c ⟨4 * g.val + (3 : Fin 4).val, bn 3⟩ _ _ _ _ _ _ ((ex 3).trans (be 3)) ((ei 3).trans (be 3)) ((eo 3).trans (be 3)) _ (bs 3) _) $$ [Hi Ho]
  · isplitl [Hi] <;> iassumption
  iintro ⟨Hi, Ho⟩
  iapply Hk
  isplitl [Hi]; · iexact Hi
  iapply (Entails.of_eq (outP_eqv (c := c) (S := rows (512 * g.val) 512) ?_))
  rotate_left
  · iexact Ho
  intro x hx
  have h := mem_rows.1 hx
  have m : ∀ r : Fin 4, x ∈ rows (128 * (⟨4 * g.val + r.val, bn r⟩ : Fin 16).val) 128 ↔ 128 * (4 * g.val + r.val) ≤ row x ∧ row x < 128 * (4 * g.val + r.val) + 128 := fun r => mem_rows
  have m0 := m 0
  have m1 := m 1
  have m2 := m 2
  have m3 := m 3
  simp only [setChunk]
  split; · rfl
  split; · rfl
  split; · rfl
  split; · rfl
  rename_i n3 n2 n1 n0
  rw [m0] at n0; rw [m1] at n1; rw [m2] at n2; rw [m3] at n3
  have z0 : (0 : Fin 4).val = 0 := rfl
  have z1 : (1 : Fin 4).val = 1 := rfl
  have z2 : (2 : Fin 4).val = 2 := rfl
  have z3 : (3 : Fin 4).val = 3 := rfl
  omega

theorem wp_ownGroup {Q : PUnit → sProp 𝕄} {k : Pg F} (c : Dev nD) (f : Out F) :
    iprop(inP I c ∗ outP c (gset c 0) f) ⊢ iprop(((inP I c ∗ outP c (gset c 0) (part I c)) -∗ WP c k Q) -∗ WP c (ownGroup c k) Q) :=
  wp_group I c (grp c 0) _ _ _ _ _ _ (by revert c; decide +kernel) (by revert c; decide +kernel) (by revert c; decide +kernel) f

theorem wp_nextGroup {Q : PUnit → sProp 𝕄} {k : Pg F} (c : Dev nD) (j : Fin 3) (i : Fin 4) (hi : i = j.succ) (f : Out F) :
    iprop(inP I c ∗ outP c (gset c i) f) ⊢ iprop(((inP I c ∗ outP c (gset c i) (part I c)) -∗ WP c k Q) -∗ WP c (nextGroup c j k) Q) := by
  subst hi
  exact wp_group I c (grp c j.succ) _ _ _ _ _ _ (by revert c j; decide +kernel) (by revert c j; decide +kernel) (by revert c j; decide +kernel) f

/-! ## The entry handshake -/

/-- The three slots of one direction of a landing buffer. -/
def slots3 (l d : Fin 2) (c : Dev nD) : sProp 𝕄 := iprop(slotAny (F := F) l d 0 c ∗ slotAny l d 1 c ∗ slotAny l d 2 c)

/-- The rights to the handshake: the four signals, and the wait. -/
def enterTk (c : Dev nD) : sProp 𝕄 :=
  iprop(dutyTok ER (barCell (nb 0 0 c)) 0 (0, opp 0) ∗ dutyTok ER (barCell (nb 0 1 c)) 0 (0, opp 1) ∗ dutyTok ER (barCell (nb 1 0 c)) 0 (1, opp 0)
    ∗ dutyTok ER (barCell (nb 1 1 c)) 0 (1, opp 1) ∗ atPos ER (barCell c) 0 ∅ 0 ∗ cred (tallyAt (barCell c) () 4))

theorem wp_tell {Q : PUnit → sProp 𝕄} {k : PUnit → Pg F} (l d : Fin 2) (c n : Dev nD) (hn : n = nb l d c) (O₀ O : CellTallies nD τ sig Unit)
    (hO : O₀ = O + tallyAt (barCell (nb l d c)) () 1) :
    iprop(know I K ∗ ow c O₀ ∗ dutyTok ER (barCell (nb l d c)) 0 (l, opp d) ∗ slots3 l (opp d) c)
      ⊢ iprop((ow c O -∗ WP c (k ⟨⟩) Q) -∗ WP c (.op (.semSignal ((n : Dev nD), .tc) barS (1#32).toInt) k) Q) := by
  subst hn
  unfold ow
  iintro ⟨#HK, ⟨%W, HO⟩, Ht, Hs⟩ Hk
  iapply (Rounds.wp_signal 𝒱₀ ER (sched I) (c : Thread nD τ) none (dst := (nb l d c : Thread nD τ)) (κ := K (nb l d c, 48))
      (d := (l, opp d)) (by rw [duties_bar]; exact Finset.mem_univ _) ((amount_bar I (nb l d c) (l, opp d)).trans (by decide)) () O hO) $$ [HO Ht Hs]
  · isplitr; · iapply (know_bar I K (nb l d c)); iexact HK
    isplitl [HO]; · iexact HO
    isplitl [Ht]; · iexact Ht
    isplitl [Hs]
    · rw [payload_bar]; unfold barPay slots3; rw [nb_opp, src_nb]; iexact Hs
    iapply (know_reached_bar I K (nb l d c)); iexact HK
  iintro HO
  iapply Hk
  iexists W; iexact HO

theorem dev1_nb (c : Dev nD) : (⟨k0_dev1 c, k0_dev1_lt c⟩ : Dev nD) = nb 0 0 c := by revert c; decide +kernel
theorem dev2_nb (c : Dev nD) : (⟨k0_dev2 c, k0_dev2_lt c⟩ : Dev nD) = nb 0 1 c := by revert c; decide +kernel
theorem dev3_nb (c : Dev nD) : (⟨k0_dev3 c, k0_dev3_lt c⟩ : Dev nD) = nb 1 0 c := by revert c; decide +kernel
theorem dev4_nb (c : Dev nD) : (⟨k0_dev4 c, k0_dev4_lt c⟩ : Dev nD) = nb 1 1 c := by revert c; decide +kernel

theorem rest_bar (c : Dev nD) : bigSep ((sched I).duties (barCell c) 0 \ ∅) (fun e => (sched I).payload (barCell c) 0 e)
    = iprop(slots3 (F := F) 0 0 (nb 0 0 c) ∗ slots3 0 1 (nb 0 1 c) ∗ slots3 1 0 (nb 1 0 c) ∗ slots3 1 1 (nb 1 1 c)) := by
  rw [Finset.sdiff_empty, duties_bar, bigSep_univ_eq_bigSepL [((0, 0) : Duty), (0, 1), (1, 0), (1, 1)] (by decide) (by decide), bigSepL_cons_cons,
    bigSepL_cons_cons, bigSepL_cons_cons, bigSepL_singleton]
  rfl

theorem wp_enter {Q : PUnit → sProp 𝕄} {k : Pg F} (c : Dev nD) :
    iprop(know I K ∗ enterTk c ∗ ow c (debt4 c) ∗ slots3 0 0 c ∗ slots3 0 1 c ∗ slots3 1 0 c ∗ slots3 1 1 c)
      ⊢ iprop(((semVal (barCell c) 0 ∗ ow c (dues c 24) ∗ slots3 0 0 (nb 0 0 c) ∗ slots3 0 1 (nb 0 1 c) ∗ slots3 1 0 (nb 1 0 c) ∗ slots3 1 1 (nb 1 1 c)) -∗ WP c k Q)
        -∗ WP c (enter c k) Q) := by
  unfold enter enterTk
  iintro ⟨#HK, ⟨Ht1, Ht2, Ht3, Ht4, Ha, Hc⟩, HO, S00, S01, S10, S11⟩ Hk
  iapply (wp_tell I K 0 0 c _ (dev1_nb c) (debt4 c) (debt3 c) rfl) $$ [HO Ht1 S01]
  · isplitr; · iexact HK
    isplitl [HO]; · iexact HO
    isplitl [Ht1]; · iexact Ht1
    iexact S01
  iintro HO
  iapply (wp_tell I K 0 1 c _ (dev2_nb c) (debt3 c) (debt2 c) rfl) $$ [HO Ht2 S00]
  · isplitr; · iexact HK
    isplitl [HO]; · iexact HO
    isplitl [Ht2]; · iexact Ht2
    iexact S00
  iintro HO
  iapply (wp_tell I K 1 0 c _ (dev3_nb c) (debt2 c) (debt1 c) rfl) $$ [HO Ht3 S11]
  · isplitr; · iexact HK
    isplitl [HO]; · iexact HO
    isplitl [Ht3]; · iexact Ht3
    iexact S11
  iintro HO
  iapply (wp_tell I K 1 1 c _ (dev4_nb c) (debt1 c) (dues c 24) rfl) $$ [HO Ht4 S10]
  · isplitr; · iexact HK
    isplitl [HO]; · iexact HO
    isplitl [Ht4]; · iexact Ht4
    iexact S10
  unfold ow
  iintro ⟨%W, HO⟩
  iapply (Rounds.wp_wait_rest_token 𝒱₀ ER (sched I) (c : Thread nD τ) none (κ := K (c, 48))
      (wpE_semWait_eq 𝒱₀ (c : Thread nD τ) none Set.univ) (Set.mem_univ _) () (O := dues c 24) (W := W) (R := 0) (m := 0) (T := ∅)
      (by rw [expect_bar]; decide)) $$ [Hc HO Ha]
  · isplitr; · iapply (know_bar I K c); iexact HK
    isplitl [Hc]; · iexact Hc
    isplitl [HO]; · iexact HO
    isplitr
    · iapply (mayWait (F := F) c (.reg barS) 24 (le_refl _) (by rw [lv_bar]; decide)); iapply (know_lev I K); iexact HK
    iexact Ha
  iintro ⟨HO, Ha, -, Hp⟩
  ihave Hp := (Entails.of_eq (rest_bar I c)) $$ Hp
  imod (Rounds.cell_close ER (sched I) (Set.mem_univ (K (c, 48))) (fun h => h) (R := 0 + 1) (duties_later I (barCell c))) $$ [Ha] with Hz
  · isplitr; · iapply (know_bar I K c); iexact HK
    iexact Ha
  iapply Hk
  isplitl [Hz]; · iexact Hz
  isplitl [HO]; · iexists _; iexact HO
  iexact Hp

end Cert.KernelIdeal.Moe
-- ==== Proof.KernelIdeal.Steps.lean ====
/-
The body's steps, both directions at once.
-/
module

public import proofs.«01_k».proof.Proof.KernelIdeal.Pieces
public import proofs.«01_k».proof.Proof.KernelIdeal.Compute

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F) (K : Dev nD × Fin 49 → ℕ)

/-! ## The printed offsets are the pieces' -/

theorem off4_piece (c : Dev nD) (s : Fin 3) : k0_off4 c (w3 s) = pOff 0 0 c s.castSucc := by revert c s; decide +kernel
theorem off5_piece (c : Dev nD) (s : Fin 3) : k0_off5 c (w3 s) = pOff 0 1 c s.castSucc := by revert c s; decide +kernel
theorem off9_piece (c : Dev nD) (s : Fin 3) : k0_off9 c (w3 s) = pOff 0 0 c s.succ := by revert c s; decide +kernel
theorem off10_piece (c : Dev nD) (s : Fin 3) : k0_off10 c (w3 s) = pOff 0 1 c s.succ := by revert c s; decide +kernel
theorem off11_piece (c : Dev nD) (s : Fin 3) : k0_off11 c (w3 s) = pOff 1 0 c s.castSucc := by revert c s; decide +kernel
theorem off12_piece (c : Dev nD) (s : Fin 3) : k0_off12 c (w3 s) = pOff 1 1 c s.castSucc := by revert c s; decide +kernel
theorem off13_piece (c : Dev nD) (s : Fin 3) : k0_off13 c (w3 s) = pOff 1 0 c s.succ := by revert c s; decide +kernel
theorem off14_piece (c : Dev nD) (s : Fin 3) : k0_off14 c (w3 s) = pOff 1 1 c s.succ := by revert c s; decide +kernel
theorem off15_piece (c : Dev nD) (s : Fin 3) : k0_off15 c (w3 s) = pOff 1 0 c (late s) := by revert c s; decide +kernel
theorem off16_piece (c : Dev nD) (s : Fin 3) : k0_off16 c (w3 s) = pOff 1 1 c (late s) := by revert c s; decide +kernel
theorem off17_piece (c : Dev nD) (s : Fin 3) : k0_off17 c (w3 s) = pOff 0 0 c (late s) := by revert c s; decide +kernel
theorem off18_piece (c : Dev nD) (s : Fin 3) : k0_off18 c (w3 s) = pOff 0 1 c (late s) := by revert c s; decide +kernel

/-! ## Steps of a reduce-scatter -/

/-- What starting a step in direction `d` takes, -/
def rsGive (p : Fin 4) (d : Fin 2) (s : Fin 3) (c : Dev nD) : sProp 𝕄 :=
  iprop(outP c (pset (lvl p) d c s.castSucc) (acc I (lvl p) d s.val c) ∗ slotAny (lvl p) d s (nb (lvl p) d c) ∗ grant p d s c ∗ stk p d s c)
/-- what finishing it takes, -/
def rsWait (p : Fin 4) (d : Fin 2) (s : Fin 3) (c : Dev nD) : sProp 𝕄 :=
  iprop(wtk p d s c ∗ sent p d s c ∗ outP c (pset (lvl p) d c s.succ) (acc I (lvl p) d 0 c))
/-- and what is there then. -/
def rsGot (p : Fin 4) (d : Fin 2) (s : Fin 3) (c : Dev nD) : sProp 𝕄 :=
  iprop(over p d s c ∗ (∃ f, outP c (pset (lvl p) d c s.castSucc) f) ∗ outP c (pset (lvl p) d c s.succ) (acc I (lvl p) d (s.val + 1) c)
    ∗ slotAny (lvl p) d s c ∗ grant p d s (src (lvl p) d c))

theorem wp_rs0Start {Q : PUnit → sProp 𝕄} {k : Pg F} (s : Fin 3) (c n₁ n₂ : Dev nD) (h₁ : n₁ = nb 0 0 c) (h₂ : n₂ = nb 0 1 c) (m : ℕ) (hm : m = 22 - 2 * s.val) :
    iprop(know I K ∗ rsGive I 0 0 s c ∗ rsGive I 0 1 s c ∗ ow c (dues c (m + 2)))
      ⊢ iprop(((sent 0 0 s c ∗ sent 0 1 s c ∗ ow c (dues c m)) -∗ WP c k Q) -∗ WP c (rs0Start c s n₁ n₂ k) Q) := by
  have hs : s.val < 3 := s.isLt
  unfold rs0Start rsGive
  iintro ⟨#HK, ⟨Ho0, Hs0, Hg0, Ht0⟩, ⟨Ho1, Hs1, Hg1, Ht1⟩, HO⟩ Hk
  iapply (wp_startRS0 I K 0 s c n₁ h₁ _ (off4_piece c s) _ (m + 1) (by show _ = _ + 0; omega) _ _) $$ [Ho0 Hs0 Hg0 Ht0 HO]
  · isplitr; · iexact HK
    isplitl [Ho0]; · iexact Ho0
    isplitl [Hs0]; · iexact Hs0
    isplitl [Hg0]; · iexact Hg0
    isplitl [HO] <;> iassumption
  iintro ⟨Hc0, HO⟩
  iapply (wp_startRS0 I K 1 s c n₂ h₂ _ (off5_piece c s) _ m (by show _ = _ + 1; omega) _ _) $$ [Ho1 Hs1 Hg1 Ht1 HO]
  · isplitr; · iexact HK
    isplitl [Ho1]; · iexact Ho1
    isplitl [Hs1]; · iexact Hs1
    isplitl [Hg1]; · iexact Hg1
    isplitl [HO] <;> iassumption
  iintro ⟨Hc1, HO⟩
  iapply Hk
  isplitl [Hc0]; · iexact Hc0
  isplitl [Hc1] <;> iassumption

theorem wp_rs0Finish {Q : PUnit → sProp 𝕄} {k : Pg F} (s : Fin 3) (c : Dev nD) (m : ℕ) (hm : m = 22 - 2 * s.val) :
    iprop(know I K ∗ rsWait I 0 0 s c ∗ rsWait I 0 1 s c ∗ ow c (dues c m))
      ⊢ iprop(((rsGot I 0 0 s c ∗ rsGot I 0 1 s c ∗ ow c (dues c m)) -∗ WP c k Q) -∗ WP c (rs0Finish c s k) Q) := by
  have hs : s.val < 3 := s.isLt
  unfold rs0Finish rsWait rsGot
  iintro ⟨#HK, ⟨Hw0, Hc0, Ho0⟩, ⟨Hw1, Hc1, Ho1⟩, HO⟩ Hk
  iapply (wp_awaitRS0 I K 0 s c _ _ m (by omega) (by omega) _ _) $$ [Hw0 Hc0 HO]
  · isplitr; · iexact HK
    isplitl [Hw0]; · iexact Hw0
    isplitl [Hc0] <;> iassumption
  iintro ⟨Hz0, HO, Hb0, Hl0, Hg0⟩
  iapply (wp_awaitRS0 I K 1 s c _ _ m (by omega) (by omega) _ _) $$ [Hw1 Hc1 HO]
  · isplitr; · iexact HK
    isplitl [Hw1]; · iexact Hw1
    isplitl [Hc1] <;> iassumption
  iintro ⟨Hz1, HO, Hb1, Hl1, Hg1⟩
  iapply (wp_accum0 I 0 s c _ (off9_piece c s) _) $$ [Ho0 Hl0]
  · isplitl [Ho0]; · iexact Ho0
    iexact Hl0
  iintro ⟨Ho0, Hl0⟩
  iapply (wp_accum0 I 1 s c _ (off10_piece c s) _) $$ [Ho1 Hl1]
  · isplitl [Ho1]; · iexact Ho1
    iexact Hl1
  iintro ⟨Ho1, Hl1⟩
  iapply Hk
  isplitl [Hz0 Hb0 Ho0 Hl0 Hg0]
  · isplitl [Hz0]; · iexact Hz0
    isplitl [Hb0]; · iexact Hb0
    isplitl [Ho0]; · iexact Ho0
    isplitl [Hl0]; · iexact Hl0
    iexact Hg0
  isplitl [Hz1 Hb1 Ho1 Hl1 Hg1]
  · isplitl [Hz1]; · iexact Hz1
    isplitl [Hb1]; · iexact Hb1
    isplitl [Ho1]; · iexact Ho1
    isplitl [Hl1]; · iexact Hl1
    iexact Hg1
  iexact HO

/-- A whole step on the other ring. -/
theorem wp_rs1 {Q : PUnit → sProp 𝕄} {k : Pg F} (s : Fin 3) (c n₁ n₂ : Dev nD) (h₁ : n₁ = nb 1 0 c) (h₂ : n₂ = nb 1 1 c) (m : ℕ) (hm : m = 16 - 2 * s.val) :
    iprop(know I K ∗ rsGive I 1 0 s c ∗ rsGive I 1 1 s c ∗ (wtk 1 0 s c ∗ outP c (pset 1 0 c s.succ) (acc I 1 0 0 c))
        ∗ (wtk 1 1 s c ∗ outP c (pset 1 1 c s.succ) (acc I 1 1 0 c)) ∗ ow c (dues c (m + 2)))
      ⊢ iprop(((rsGot I 1 0 s c ∗ rsGot I 1 1 s c ∗ ow c (dues c m)) -∗ WP c k Q) -∗ WP c (rs1 c s n₁ n₂ k) Q) := by
  have hs : s.val < 3 := s.isLt
  unfold rs1 rsGive rsGot
  iintro ⟨#HK, ⟨Ho0, Hs0, Hg0, Ht0⟩, ⟨Ho1, Hs1, Hg1, Ht1⟩, ⟨Hw0, Hp0⟩, ⟨Hw1, Hp1⟩, HO⟩ Hk
  iapply (wp_startRS1 I K 0 s c n₁ h₁ _ (off11_piece c s) _ (m + 1) (by show _ = _ + 0; omega) _ _) $$ [Ho0 Hs0 Hg0 Ht0 HO]
  · isplitr; · iexact HK
    isplitl [Ho0]; · iexact Ho0
    isplitl [Hs0]; · iexact Hs0
    isplitl [Hg0]; · iexact Hg0
    isplitl [HO] <;> iassumption
  iintro ⟨Hc0, HO⟩
  iapply (wp_startRS1 I K 1 s c n₂ h₂ _ (off12_piece c s) _ m (by show _ = _ + 1; omega) _ _) $$ [Ho1 Hs1 Hg1 Ht1 HO]
  · isplitr; · iexact HK
    isplitl [Ho1]; · iexact Ho1
    isplitl [Hs1]; · iexact Hs1
    isplitl [Hg1]; · iexact Hg1
    isplitl [HO] <;> iassumption
  iintro ⟨Hc1, HO⟩
  iapply (wp_awaitRS1 I K 0 s c _ _ m (by omega) (by omega) _ _) $$ [Hw0 Hc0 HO]
  · isplitr; · iexact HK
    isplitl [Hw0]; · iexact Hw0
    isplitl [Hc0] <;> iassumption
  iintro ⟨Hz0, HO, Hb0, Hl0, Hg0⟩
  iapply (wp_awaitRS1 I K 1 s c _ _ m (by omega) (by omega) _ _) $$ [Hw1 Hc1 HO]
  · isplitr; · iexact HK
    isplitl [Hw1]; · iexact Hw1
    isplitl [Hc1] <;> iassumption
  iintro ⟨Hz1, HO, Hb1, Hl1, Hg1⟩
  iapply (wp_accum1 I 0 s c _ (off13_piece c s) _) $$ [Hp0 Hl0]
  · isplitl [Hp0]; · iexact Hp0
    iexact Hl0
  iintro ⟨Ho0, Hl0⟩
  iapply (wp_accum1 I 1 s c _ (off14_piece c s) _) $$ [Hp1 Hl1]
  · isplitl [Hp1]; · iexact Hp1
    iexact Hl1
  iintro ⟨Ho1, Hl1⟩
  iapply Hk
  isplitl [Hz0 Hb0 Ho0 Hl0 Hg0]
  · isplitl [Hz0]; · iexact Hz0
    isplitl [Hb0]; · iexact Hb0
    isplitl [Ho0]; · iexact Ho0
    isplitl [Hl0]; · iexact Hl0
    iexact Hg0
  isplitl [Hz1 Hb1 Ho1 Hl1 Hg1]
  · isplitl [Hz1]; · iexact Hz1
    isplitl [Hb1]; · iexact Hb1
    isplitl [Ho1]; · iexact Ho1
    isplitl [Hl1]; · iexact Hl1
    iexact Hg1
  iexact HO

/-! ## Steps of an all-gather -/

/-- What a step in direction `d` takes, -/
def agGive (p : Fin 4) (d : Fin 2) (s : Fin 3) (c : Dev nD) : sProp 𝕄 :=
  iprop(outP c (pset (lvl p) d c (late s)) (fin I d) ∗ room (lvl p) d s (nb (lvl p) d c) ∗ grant p d s c ∗ stk p d s c ∗ wtk p d s c)
/-- and what is there after it. -/
def agGot (p : Fin 4) (d : Fin 2) (s : Fin 3) (c : Dev nD) : sProp 𝕄 :=
  iprop(over p d s c ∗ outP c (pset (lvl p) d c (late s)) (fin I d) ∗ outP c (pset (lvl p) d c s.castSucc) (fin I d) ∗ grant p d s (src (lvl p) d c))

theorem wp_ag1 {Q : PUnit → sProp 𝕄} {k : Pg F} (s : Fin 3) (c n₁ n₂ : Dev nD) (h₁ : n₁ = nb 1 0 c) (h₂ : n₂ = nb 1 1 c) (m : ℕ) (hm : m = 10 - 2 * s.val) :
    iprop(know I K ∗ agGive I 2 0 s c ∗ agGive I 2 1 s c ∗ ow c (dues c (m + 2)))
      ⊢ iprop(((agGot I 2 0 s c ∗ agGot I 2 1 s c ∗ ow c (dues c m)) -∗ WP c k Q) -∗ WP c (ag1 c s n₁ n₂ k) Q) := by
  have hs : s.val < 3 := s.isLt
  unfold ag1 agGive agGot
  iintro ⟨#HK, ⟨Ho0, Hs0, Hg0, Ht0, Hw0⟩, ⟨Ho1, Hs1, Hg1, Ht1, Hw1⟩, HO⟩ Hk
  iapply (wp_startAG1 I K 0 s c n₁ h₁ _ (off15_piece c s) _ (m + 1) (by show _ = _ + 0; omega) _ _) $$ [Ho0 Hs0 Hg0 Ht0 HO]
  · isplitr; · iexact HK
    isplitl [Ho0]; · iexact Ho0
    isplitl [Hs0]; · iexact Hs0
    isplitl [Hg0]; · iexact Hg0
    isplitl [HO] <;> iassumption
  iintro ⟨Hc0, HO⟩
  iapply (wp_startAG1 I K 1 s c n₂ h₂ _ (off16_piece c s) _ m (by show _ = _ + 1; omega) _ _) $$ [Ho1 Hs1 Hg1 Ht1 HO]
  · isplitr; · iexact HK
    isplitl [Ho1]; · iexact Ho1
    isplitl [Hs1]; · iexact Hs1
    isplitl [Hg1]; · iexact Hg1
    isplitl [HO] <;> iassumption
  iintro ⟨Hc1, HO⟩
  iapply (wp_awaitAG1 I K 0 s c _ _ m (by omega) (by omega) _ _) $$ [Hw0 Hc0 HO]
  · isplitr; · iexact HK
    isplitl [Hw0]; · iexact Hw0
    isplitl [Hc0] <;> iassumption
  iintro ⟨Hz0, HO, Hb0, Hl0, Hg0⟩
  iapply (wp_awaitAG1 I K 1 s c _ _ m (by omega) (by omega) _ _) $$ [Hw1 Hc1 HO]
  · isplitr; · iexact HK
    isplitl [Hw1]; · iexact Hw1
    isplitl [Hc1] <;> iassumption
  iintro ⟨Hz1, HO, Hb1, Hl1, Hg1⟩
  iapply Hk
  isplitl [Hz0 Hb0 Hl0 Hg0]
  · isplitl [Hz0]; · iexact Hz0
    isplitl [Hb0]; · iexact Hb0
    isplitl [Hl0]; · iexact Hl0
    iexact Hg0
  isplitl [Hz1 Hb1 Hl1 Hg1]
  · isplitl [Hz1]; · iexact Hz1
    isplitl [Hb1]; · iexact Hb1
    isplitl [Hl1]; · iexact Hl1
    iexact Hg1
  iexact HO

theorem wp_ag0 {Q : PUnit → sProp 𝕄} {k : Pg F} (s : Fin 3) (c n₁ n₂ : Dev nD) (h₁ : n₁ = nb 0 0 c) (h₂ : n₂ = nb 0 1 c) (m : ℕ) (hm : m = 4 - 2 * s.val) :
    iprop(know I K ∗ agGive I 3 0 s c ∗ agGive I 3 1 s c ∗ ow c (dues c (m + 2)))
      ⊢ iprop(((agGot I 3 0 s c ∗ agGot I 3 1 s c ∗ ow c (dues c m)) -∗ WP c k Q) -∗ WP c (ag0 c s n₁ n₂ k) Q) := by
  have hs : s.val < 3 := s.isLt
  unfold ag0 agGive agGot
  iintro ⟨#HK, ⟨Ho0, Hs0, Hg0, Ht0, Hw0⟩, ⟨Ho1, Hs1, Hg1, Ht1, Hw1⟩, HO⟩ Hk
  iapply (wp_startAG0 I K 0 s c n₁ h₁ _ (off17_piece c s) _ (m + 1) (by show _ = _ + 0; omega) _ _) $$ [Ho0 Hs0 Hg0 Ht0 HO]
  · isplitr; · iexact HK
    isplitl [Ho0]; · iexact Ho0
    isplitl [Hs0]; · iexact Hs0
    isplitl [Hg0]; · iexact Hg0
    isplitl [HO] <;> iassumption
  iintro ⟨Hc0, HO⟩
  iapply (wp_startAG0 I K 1 s c n₂ h₂ _ (off18_piece c s) _ m (by show _ = _ + 1; omega) _ _) $$ [Ho1 Hs1 Hg1 Ht1 HO]
  · isplitr; · iexact HK
    isplitl [Ho1]; · iexact Ho1
    isplitl [Hs1]; · iexact Hs1
    isplitl [Hg1]; · iexact Hg1
    isplitl [HO] <;> iassumption
  iintro ⟨Hc1, HO⟩
  iapply (wp_awaitAG0 I K 0 s c _ _ m (by omega) (by omega) _ _) $$ [Hw0 Hc0 HO]
  · isplitr; · iexact HK
    isplitl [Hw0]; · iexact Hw0
    isplitl [Hc0] <;> iassumption
  iintro ⟨Hz0, HO, Hb0, Hl0, Hg0⟩
  iapply (wp_awaitAG0 I K 1 s c _ _ m (by omega) (by omega) _ _) $$ [Hw1 Hc1 HO]
  · isplitr; · iexact HK
    isplitl [Hw1]; · iexact Hw1
    isplitl [Hc1] <;> iassumption
  iintro ⟨Hz1, HO, Hb1, Hl1, Hg1⟩
  iapply Hk
  isplitl [Hz0 Hb0 Hl0 Hg0]
  · isplitl [Hz0]; · iexact Hz0
    isplitl [Hb0]; · iexact Hb0
    isplitl [Hl0]; · iexact Hl0
    iexact Hg0
  isplitl [Hz1 Hb1 Hl1 Hg1]
  · isplitl [Hz1]; · iexact Hz1
    isplitl [Hb1]; · iexact Hb1
    isplitl [Hl1]; · iexact Hl1
    iexact Hg1
  iexact HO

end Cert.KernelIdeal.Moe
-- ==== Proof.KernelIdeal.Body.lean ====
/-
The body's four phases, and the whole body.
-/
module

public import proofs.«01_k».proof.Proof.KernelIdeal.Steps

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F) (K : Dev nD × Fin 49 → ℕ)

/-! ## What a phase takes and leaves -/

/-- A phase's rights. -/
def rights (p : Fin 4) (c : Dev nD) : sProp 𝕄 :=
  iprop((stk (F := F) p 0 0 c ∗ wtk p 0 0 c) ∗ (stk p 1 0 c ∗ wtk p 1 0 c) ∗ (stk p 0 1 c ∗ wtk p 0 1 c) ∗ (stk p 1 1 c ∗ wtk p 1 1 c)
    ∗ (stk p 0 2 c ∗ wtk p 0 2 c) ∗ (stk p 1 2 c ∗ wtk p 1 2 c))
/-- A phase's counters, all at zero. -/
def overs (p : Fin 4) (c : Dev nD) : sProp 𝕄 :=
  iprop(over (F := F) p 0 0 c ∗ over p 1 0 c ∗ over p 0 1 c ∗ over p 1 1 c ∗ over p 0 2 c ∗ over p 1 2 c)

/-- A piece with whatever it holds. -/
abbrev pieceAny (l d : Fin 2) (i : Fin 4) (c : Dev nD) : sProp 𝕄 := iprop(∃ f, outP (F := F) c (pset l d c i) f)

/-- What a reduce-scatter leaves in direction `d`: the device's last piece summed, the piece before it, room at the next
    device for two of the all-gather's copies, and the slots. -/
def rsEnd (l d : Fin 2) (c : Dev nD) : sProp 𝕄 :=
  iprop(outP c (pset l d c 3) (acc I l d 3 c) ∗ pieceAny l d 2 c ∗ room l d 0 (nb l d c) ∗ room l d 1 (nb l d c) ∗ slots3 l d c)

/-- What an all-gather takes in direction `d`, -/
def agBegin (l d : Fin 2) (c : Dev nD) : sProp 𝕄 :=
  iprop(outP c (pset l d c 3) (fin I d) ∗ pieceAny l d 2 c ∗ room l d 0 (nb l d c) ∗ room l d 1 (nb l d c))
/-- and leaves: every piece finished. -/
def agEnd (l d : Fin 2) (c : Dev nD) : sProp 𝕄 :=
  iprop(outP c (pset l d c 0) (fin I d) ∗ outP c (pset l d c 1) (fin I d) ∗ outP c (pset l d c 2) (fin I d) ∗ outP c (pset l d c 3) (fin I d))

theorem grant_first (p : Fin 4) (hp : p.val < 2) (d : Fin 2) (b : Dev nD) : (iprop(emp) : sProp 𝕄) ⊢ grant p d 0 b := by
  unfold grant; rw [if_pos hp, if_pos rfl]
theorem grant_ag1 (p : Fin 4) (hp : ¬ p.val < 2) (d : Fin 2) (b : Dev nD) : (iprop(emp) : sProp 𝕄) ⊢ grant p d 1 b := by
  unfold grant; rw [if_neg hp, if_neg (by decide)]
theorem grant_ag2 (p : Fin 4) (hp : ¬ p.val < 2) (d : Fin 2) (b : Dev nD) : (iprop(emp) : sProp 𝕄) ⊢ grant p d 2 b := by
  unfold grant; rw [if_neg hp, if_neg (by decide)]
theorem give_rs1 (p : Fin 4) (hp : p.val < 2) (d d' : Fin 2) (hd : d' = opp d) (b : Dev nD) : (pieceAny (lvl p) d' 0 b : sProp 𝕄) ⊢ grant p d 1 b := by
  subst hd; unfold grant; rw [if_pos hp, if_neg (by decide)]; exact Entails.of_eq rfl
theorem give_rs2 (p : Fin 4) (hp : p.val < 2) (d d' : Fin 2) (hd : d' = opp d) (b : Dev nD) : (pieceAny (lvl p) d' 1 b : sProp 𝕄) ⊢ grant p d 2 b := by
  subst hd; unfold grant; rw [if_pos hp, if_neg (by decide)]; exact Entails.of_eq rfl
theorem give_ag0 (p : Fin 4) (hp : ¬ p.val < 2) (d d' : Fin 2) (hd : d' = opp d) (b : Dev nD) : (pieceAny (lvl p) d' 2 b : sProp 𝕄) ⊢ grant p d 0 b := by
  subst hd; unfold grant; rw [if_neg hp, if_pos rfl]
theorem got_rs1 (p : Fin 4) (hp : p.val < 2) (d d' : Fin 2) (hd : d' = opp d) (c : Dev nD) :
    (grant p d 1 (src (lvl p) d c) : sProp 𝕄) ⊢ room (lvl p) d' 0 (nb (lvl p) d' c) := by
  subst hd; unfold grant; rw [if_pos hp, if_neg (by decide)]; exact Entails.of_eq rfl
theorem got_rs2 (p : Fin 4) (hp : p.val < 2) (d d' : Fin 2) (hd : d' = opp d) (c : Dev nD) :
    (grant p d 2 (src (lvl p) d c) : sProp 𝕄) ⊢ room (lvl p) d' 1 (nb (lvl p) d' c) := by
  subst hd; unfold grant; rw [if_pos hp, if_neg (by decide)]; exact Entails.of_eq rfl
theorem got_ag0 (p : Fin 4) (hp : ¬ p.val < 2) (d d' : Fin 2) (hd : d' = opp d) (c : Dev nD) :
    (grant p d 0 (src (lvl p) d c) : sProp 𝕄) ⊢ room (lvl p) d' 2 (nb (lvl p) d' c) := by
  subst hd; unfold grant; rw [if_neg hp, if_pos rfl]; exact Entails.of_eq rfl

/-! ## The printed neighbours -/

theorem dev5_nb (c : Dev nD) : (⟨k0_dev5 c, k0_dev5_lt c⟩ : Dev nD) = nb 0 0 c := by revert c; decide +kernel
theorem dev6_nb (c : Dev nD) : (⟨k0_dev6 c, k0_dev6_lt c⟩ : Dev nD) = nb 0 1 c := by revert c; decide +kernel
theorem dev7_nb (c : Dev nD) : (⟨k0_dev7 c, k0_dev7_lt c⟩ : Dev nD) = nb 0 0 c := by revert c; decide +kernel
theorem dev8_nb (c : Dev nD) : (⟨k0_dev8 c, k0_dev8_lt c⟩ : Dev nD) = nb 0 1 c := by revert c; decide +kernel
theorem dev9_nb (c : Dev nD) : (⟨k0_dev9 c, k0_dev9_lt c⟩ : Dev nD) = nb 0 0 c := by revert c; decide +kernel
theorem dev10_nb (c : Dev nD) : (⟨k0_dev10 c, k0_dev10_lt c⟩ : Dev nD) = nb 0 1 c := by revert c; decide +kernel
theorem dev11_nb (c : Dev nD) : (⟨k0_dev11 c, k0_dev11_lt c⟩ : Dev nD) = nb 1 0 c := by revert c; decide +kernel
theorem dev12_nb (c : Dev nD) : (⟨k0_dev12 c, k0_dev12_lt c⟩ : Dev nD) = nb 1 1 c := by revert c; decide +kernel
theorem dev13_nb (c : Dev nD) : (⟨k0_dev13 c, k0_dev13_lt c⟩ : Dev nD) = nb 1 0 c := by revert c; decide +kernel
theorem dev14_nb (c : Dev nD) : (⟨k0_dev14 c, k0_dev14_lt c⟩ : Dev nD) = nb 1 1 c := by revert c; decide +kernel
theorem dev15_nb (c : Dev nD) : (⟨k0_dev15 c, k0_dev15_lt c⟩ : Dev nD) = nb 1 0 c := by revert c; decide +kernel
theorem dev16_nb (c : Dev nD) : (⟨k0_dev16 c, k0_dev16_lt c⟩ : Dev nD) = nb 1 1 c := by revert c; decide +kernel
theorem dev17_nb (c : Dev nD) : (⟨k0_dev17 c, k0_dev17_lt c⟩ : Dev nD) = nb 1 0 c := by revert c; decide +kernel
theorem dev18_nb (c : Dev nD) : (⟨k0_dev18 c, k0_dev18_lt c⟩ : Dev nD) = nb 1 1 c := by revert c; decide +kernel
theorem dev19_nb (c : Dev nD) : (⟨k0_dev19 c, k0_dev19_lt c⟩ : Dev nD) = nb 1 0 c := by revert c; decide +kernel
theorem dev20_nb (c : Dev nD) : (⟨k0_dev20 c, k0_dev20_lt c⟩ : Dev nD) = nb 1 1 c := by revert c; decide +kernel
theorem dev21_nb (c : Dev nD) : (⟨k0_dev21 c, k0_dev21_lt c⟩ : Dev nD) = nb 1 0 c := by revert c; decide +kernel
theorem dev22_nb (c : Dev nD) : (⟨k0_dev22 c, k0_dev22_lt c⟩ : Dev nD) = nb 1 1 c := by revert c; decide +kernel
theorem dev23_nb (c : Dev nD) : (⟨k0_dev23 c, k0_dev23_lt c⟩ : Dev nD) = nb 0 0 c := by revert c; decide +kernel
theorem dev24_nb (c : Dev nD) : (⟨k0_dev24 c, k0_dev24_lt c⟩ : Dev nD) = nb 0 1 c := by revert c; decide +kernel
theorem dev25_nb (c : Dev nD) : (⟨k0_dev25 c, k0_dev25_lt c⟩ : Dev nD) = nb 0 0 c := by revert c; decide +kernel
theorem dev26_nb (c : Dev nD) : (⟨k0_dev26 c, k0_dev26_lt c⟩ : Dev nD) = nb 0 1 c := by revert c; decide +kernel
theorem dev27_nb (c : Dev nD) : (⟨k0_dev27 c, k0_dev27_lt c⟩ : Dev nD) = nb 0 0 c := by revert c; decide +kernel
theorem dev28_nb (c : Dev nD) : (⟨k0_dev28 c, k0_dev28_lt c⟩ : Dev nD) = nb 0 1 c := by revert c; decide +kernel

/-! ## The phases -/

/-- The plane reduce-scatter, the other groups computed on the way. -/
theorem wp_planeRS {Q : PUnit → sProp 𝕄} {k : Pg F} (c : Dev nD) (f : Out F) :
    iprop(know I K ∗ inP I c ∗ outP c (gset c 0) (part I c) ∗ outP c (gset c 1) f ∗ outP c (gset c 2) f ∗ outP c (gset c 3) f
        ∗ slots3 0 0 (nb 0 0 c) ∗ slots3 0 1 (nb 0 1 c) ∗ ow c (dues c 24) ∗ rights 0 c)
      ⊢ iprop(((inP I c ∗ rsEnd I 0 0 c ∗ rsEnd I 0 1 c ∗ overs 0 c ∗ ow c (dues c 18)) -∗ WP c k Q) -∗ WP c (planeRS c k) Q) := by
  unfold planeRS rights slots3
  iintro ⟨#HK, Hi, Hg0, Hg1, Hg2, Hg3, ⟨S00, S01, S02⟩, ⟨S10, S11, S12⟩, HO, ⟨T00, W00⟩, ⟨T10, W10⟩, ⟨T01, W01⟩, ⟨T11, W11⟩, ⟨T02, W02⟩, ⟨T12, W12⟩⟩ Hk
  ihave Hg0 := (gset_out c 0 (part I c)).1 $$ Hg0
  icases Hg0 with ⟨A0, B0⟩
  -- the first step
  iapply (wp_rs0Start I K 0 c _ _ (dev5_nb c) (dev6_nb c) 22 rfl) $$ [A0 S00 T00 B0 S10 T10 HO]
  · unfold rsGive
    isplitr; · iexact HK
    isplitl [A0 S00 T00]
    · isplitl [A0]; · iexact A0
      isplitl [S00]; · iexact S00
      isplitr; · iapply (grant_first 0 (by decide) 0 c); iempintro
      iexact T00
    isplitl [B0 S10 T10]
    · isplitl [B0]; · iexact B0
      isplitl [S10]; · iexact S10
      isplitr; · iapply (grant_first 0 (by decide) 1 c); iempintro
      iexact T10
    iexact HO
  iintro ⟨C00, C10, HO⟩
  iapply (wp_nextGroup I c 0 1 rfl f) $$ [Hi Hg1]
  · isplitl [Hi]; · iexact Hi
    iexact Hg1
  iintro ⟨Hi, Hg1⟩
  ihave Hg1 := (gset_out c 1 (part I c)).1 $$ Hg1
  icases Hg1 with ⟨A3, B1⟩
  iapply (wp_nextGroup I c 2 3 rfl f) $$ [Hi Hg3]
  · isplitl [Hi]; · iexact Hi
    iexact Hg3
  iintro ⟨Hi, Hg3⟩
  ihave Hg3 := (gset_out c 3 (part I c)).1 $$ Hg3
  icases Hg3 with ⟨A1, B3⟩
  iapply (wp_rs0Finish I K 0 c 22 rfl) $$ [W00 C00 A1 W10 C10 B1 HO]
  · unfold rsWait
    isplitr; · iexact HK
    isplitl [W00 C00 A1]
    · isplitl [W00]; · iexact W00
      isplitl [C00]; · iexact C00
      iexact A1
    isplitl [W10 C10 B1]
    · isplitl [W10]; · iexact W10
      isplitl [C10]; · iexact C10
      iexact B1
    iexact HO
  unfold rsGot
  iintro ⟨⟨Z00, A0, A1, S00, -⟩, ⟨Z10, B0, B1, S10, -⟩, HO⟩
  -- the second
  iapply (wp_rs0Start I K 1 c _ _ (dev7_nb c) (dev8_nb c) 20 rfl) $$ [A0 A1 S01 T01 B0 B1 S11 T11 HO]
  · unfold rsGive
    isplitr; · iexact HK
    isplitl [A1 B0 S01 T01]
    · isplitl [A1]; · iexact A1
      isplitl [S01]; · iexact S01
      isplitl [B0]; · iapply (give_rs1 0 (by decide) 0 1 rfl c); iexact B0
      iexact T01
    isplitl [B1 A0 S11 T11]
    · isplitl [B1]; · iexact B1
      isplitl [S11]; · iexact S11
      isplitl [A0]; · iapply (give_rs1 0 (by decide) 1 0 rfl c); iexact A0
      iexact T11
    iexact HO
  iintro ⟨C01, C11, HO⟩
  iapply (wp_nextGroup I c 1 2 rfl f) $$ [Hi Hg2]
  · isplitl [Hi]; · iexact Hi
    iexact Hg2
  iintro ⟨Hi, Hg2⟩
  ihave Hg2 := (gset_out c 2 (part I c)).1 $$ Hg2
  icases Hg2 with ⟨A2, B2⟩
  iapply (wp_rs0Finish I K 1 c 20 rfl) $$ [W01 C01 A2 W11 C11 B2 HO]
  · unfold rsWait
    isplitr; · iexact HK
    isplitl [W01 C01 A2]
    · isplitl [W01]; · iexact W01
      isplitl [C01]; · iexact C01
      iexact A2
    isplitl [W11 C11 B2]
    · isplitl [W11]; · iexact W11
      isplitl [C11]; · iexact C11
      iexact B2
    iexact HO
  unfold rsGot
  iintro ⟨⟨Z01, A1, A2, S01, R10⟩, ⟨Z11, B1, B2, S11, R00⟩, HO⟩
  -- the third
  iapply (wp_rs0Start I K 2 c _ _ (dev9_nb c) (dev10_nb c) 18 rfl) $$ [A1 A2 S02 T02 B1 B2 S12 T12 HO]
  · unfold rsGive
    isplitr; · iexact HK
    isplitl [A2 B1 S02 T02]
    · isplitl [A2]; · iexact A2
      isplitl [S02]; · iexact S02
      isplitl [B1]; · iapply (give_rs2 0 (by decide) 0 1 rfl c); iexact B1
      iexact T02
    isplitl [B2 A1 S12 T12]
    · isplitl [B2]; · iexact B2
      isplitl [S12]; · iexact S12
      isplitl [A1]; · iapply (give_rs2 0 (by decide) 1 0 rfl c); iexact A1
      iexact T12
    iexact HO
  iintro ⟨C02, C12, HO⟩
  iapply (wp_rs0Finish I K 2 c 18 rfl) $$ [W02 C02 A3 W12 C12 B3 HO]
  · unfold rsWait
    isplitr; · iexact HK
    isplitl [W02 C02 A3]
    · isplitl [W02]; · iexact W02
      isplitl [C02]; · iexact C02
      iexact A3
    isplitl [W12 C12 B3]
    · isplitl [W12]; · iexact W12
      isplitl [C12]; · iexact C12
      iexact B3
    iexact HO
  unfold rsGot
  iintro ⟨⟨Z02, A2, A3, S02, R11⟩, ⟨Z12, B2, B3, S12, R01⟩, HO⟩
  iapply Hk
  unfold rsEnd overs
  isplitl [Hi]; · iexact Hi
  isplitl [A3 A2 R00 R01 S00 S01 S02]
  · isplitl [A3]; · iexact A3
    isplitl [A2]; · iexact A2
    isplitl [R00]; · iapply (got_rs1 0 (by decide) 1 0 rfl c); iexact R00
    isplitl [R01]; · iapply (got_rs2 0 (by decide) 1 0 rfl c); iexact R01
    unfold slots3
    isplitl [S00]; · iexact S00
    isplitl [S01]; · iexact S01
    iexact S02
  isplitl [B3 B2 R10 R11 S10 S11 S12]
  · isplitl [B3]; · iexact B3
    isplitl [B2]; · iexact B2
    isplitl [R10]; · iapply (got_rs1 0 (by decide) 0 1 rfl c); iexact R10
    isplitl [R11]; · iapply (got_rs2 0 (by decide) 0 1 rfl c); iexact R11
    unfold slots3
    isplitl [S10]; · iexact S10
    isplitl [S11]; · iexact S11
    iexact S12
  isplitl [Z00 Z10 Z01 Z11 Z02 Z12]
  · isplitl [Z00]; · iexact Z00
    isplitl [Z10]; · iexact Z10
    isplitl [Z01]; · iexact Z01
    isplitl [Z11]; · iexact Z11
    isplitl [Z02]; · iexact Z02
    iexact Z12
  iexact HO

/-- The other ring's reduce-scatter. -/
theorem wp_otherRS {Q : PUnit → sProp 𝕄} {k : Pg F} (c : Dev nD) :
    iprop(know I K ∗ (outP c (pset 1 0 c 0) (acc I 1 0 0 c) ∗ outP c (pset 1 0 c 1) (acc I 1 0 0 c) ∗ outP c (pset 1 0 c 2) (acc I 1 0 0 c) ∗ outP c (pset 1 0 c 3) (acc I 1 0 0 c))
        ∗ (outP c (pset 1 1 c 0) (acc I 1 1 0 c) ∗ outP c (pset 1 1 c 1) (acc I 1 1 0 c) ∗ outP c (pset 1 1 c 2) (acc I 1 1 0 c) ∗ outP c (pset 1 1 c 3) (acc I 1 1 0 c))
        ∗ slots3 1 0 (nb 1 0 c) ∗ slots3 1 1 (nb 1 1 c) ∗ ow c (dues c 18) ∗ rights 1 c)
      ⊢ iprop(((rsEnd I 1 0 c ∗ rsEnd I 1 1 c ∗ overs 1 c ∗ ow c (dues c 12)) -∗ WP c k Q) -∗ WP c (otherRS c k) Q) := by
  unfold otherRS rights slots3
  iintro ⟨#HK, ⟨A0, A1, A2, A3⟩, ⟨B0, B1, B2, B3⟩, ⟨S00, S01, S02⟩, ⟨S10, S11, S12⟩, HO, ⟨T00, W00⟩, ⟨T10, W10⟩, ⟨T01, W01⟩, ⟨T11, W11⟩, ⟨T02, W02⟩, ⟨T12, W12⟩⟩ Hk
  iapply (wp_rs1 I K 0 c _ _ (dev11_nb c) (dev12_nb c) 16 rfl) $$ [A0 A1 S00 T00 W00 B0 B1 S10 T10 W10 HO]
  · unfold rsGive
    isplitr; · iexact HK
    isplitl [A0 S00 T00]
    · isplitl [A0]; · iexact A0
      isplitl [S00]; · iexact S00
      isplitr; · iapply (grant_first 1 (by decide) 0 c); iempintro
      iexact T00
    isplitl [B0 S10 T10]
    · isplitl [B0]; · iexact B0
      isplitl [S10]; · iexact S10
      isplitr; · iapply (grant_first 1 (by decide) 1 c); iempintro
      iexact T10
    isplitl [W00 A1]
    · isplitl [W00]; · iexact W00
      iexact A1
    isplitl [W10 B1]
    · isplitl [W10]; · iexact W10
      iexact B1
    iexact HO
  unfold rsGot
  iintro ⟨⟨Z00, A0, A1, S00, -⟩, ⟨Z10, B0, B1, S10, -⟩, HO⟩
  iapply (wp_rs1 I K 1 c _ _ (dev13_nb c) (dev14_nb c) 14 rfl) $$ [A1 A2 A0 S01 T01 W01 B1 B2 B0 S11 T11 W11 HO]
  · unfold rsGive
    isplitr; · iexact HK
    isplitl [A1 B0 S01 T01]
    · isplitl [A1]; · iexact A1
      isplitl [S01]; · iexact S01
      isplitl [B0]; · iapply (give_rs1 1 (by decide) 0 1 rfl c); iexact B0
      iexact T01
    isplitl [B1 A0 S11 T11]
    · isplitl [B1]; · iexact B1
      isplitl [S11]; · iexact S11
      isplitl [A0]; · iapply (give_rs1 1 (by decide) 1 0 rfl c); iexact A0
      iexact T11
    isplitl [W01 A2]
    · isplitl [W01]; · iexact W01
      iexact A2
    isplitl [W11 B2]
    · isplitl [W11]; · iexact W11
      iexact B2
    iexact HO
  unfold rsGot
  iintro ⟨⟨Z01, A1, A2, S01, R10⟩, ⟨Z11, B1, B2, S11, R00⟩, HO⟩
  iapply (wp_rs1 I K 2 c _ _ (dev15_nb c) (dev16_nb c) 12 rfl) $$ [A2 A3 A1 S02 T02 W02 B2 B3 B1 S12 T12 W12 HO]
  · unfold rsGive
    isplitr; · iexact HK
    isplitl [A2 B1 S02 T02]
    · isplitl [A2]; · iexact A2
      isplitl [S02]; · iexact S02
      isplitl [B1]; · iapply (give_rs2 1 (by decide) 0 1 rfl c); iexact B1
      iexact T02
    isplitl [B2 A1 S12 T12]
    · isplitl [B2]; · iexact B2
      isplitl [S12]; · iexact S12
      isplitl [A1]; · iapply (give_rs2 1 (by decide) 1 0 rfl c); iexact A1
      iexact T12
    isplitl [W02 A3]
    · isplitl [W02]; · iexact W02
      iexact A3
    isplitl [W12 B3]
    · isplitl [W12]; · iexact W12
      iexact B3
    iexact HO
  unfold rsGot
  iintro ⟨⟨Z02, A2, A3, S02, R11⟩, ⟨Z12, B2, B3, S12, R01⟩, HO⟩
  iapply Hk
  unfold rsEnd overs
  isplitl [A3 A2 R00 R01 S00 S01 S02]
  · isplitl [A3]; · iexact A3
    isplitl [A2]; · iexact A2
    isplitl [R00]; · iapply (got_rs1 1 (by decide) 1 0 rfl c); iexact R00
    isplitl [R01]; · iapply (got_rs2 1 (by decide) 1 0 rfl c); iexact R01
    unfold slots3
    isplitl [S00]; · iexact S00
    isplitl [S01]; · iexact S01
    iexact S02
  isplitl [B3 B2 R10 R11 S10 S11 S12]
  · isplitl [B3]; · iexact B3
    isplitl [B2]; · iexact B2
    isplitl [R10]; · iapply (got_rs1 1 (by decide) 0 1 rfl c); iexact R10
    isplitl [R11]; · iapply (got_rs2 1 (by decide) 0 1 rfl c); iexact R11
    unfold slots3
    isplitl [S10]; · iexact S10
    isplitl [S11]; · iexact S11
    iexact S12
  isplitl [Z00 Z10 Z01 Z11 Z02 Z12]
  · isplitl [Z00]; · iexact Z00
    isplitl [Z10]; · iexact Z10
    isplitl [Z01]; · iexact Z01
    isplitl [Z11]; · iexact Z11
    isplitl [Z02]; · iexact Z02
    iexact Z12
  iexact HO

/-- The other ring's all-gather. -/
theorem wp_otherAG {Q : PUnit → sProp 𝕄} {k : Pg F} (c : Dev nD) :
    iprop(know I K ∗ agBegin I 1 0 c ∗ agBegin I 1 1 c ∗ ow c (dues c 12) ∗ rights 2 c)
      ⊢ iprop(((agEnd I 1 0 c ∗ agEnd I 1 1 c ∗ overs 2 c ∗ ow c (dues c 6)) -∗ WP c k Q) -∗ WP c (otherAG c k) Q) := by
  unfold otherAG rights agBegin
  iintro ⟨#HK, ⟨A3, A2, R00, R01⟩, ⟨B3, B2, R10, R11⟩, HO, ⟨T00, W00⟩, ⟨T10, W10⟩, ⟨T01, W01⟩, ⟨T11, W11⟩, ⟨T02, W02⟩, ⟨T12, W12⟩⟩ Hk
  iapply (wp_ag1 I K 0 c _ _ (dev17_nb c) (dev18_nb c) 10 rfl) $$ [A3 A2 R00 T00 W00 B3 B2 R10 T10 W10 HO]
  · unfold agGive
    isplitr; · iexact HK
    isplitl [A3 B2 R00 T00 W00]
    · isplitl [A3]; · iexact A3
      isplitl [R00]; · iexact R00
      isplitl [B2]; · iapply (give_ag0 2 (by decide) 0 1 rfl c); iexact B2
      isplitl [T00]; · iexact T00
      iexact W00
    isplitl [B3 A2 R10 T10 W10]
    · isplitl [B3]; · iexact B3
      isplitl [R10]; · iexact R10
      isplitl [A2]; · iapply (give_ag0 2 (by decide) 1 0 rfl c); iexact A2
      isplitl [T10]; · iexact T10
      iexact W10
    iexact HO
  unfold agGot
  iintro ⟨⟨Z00, A3, A0, R12⟩, ⟨Z10, B3, B0, R02⟩, HO⟩
  iapply (wp_ag1 I K 1 c _ _ (dev19_nb c) (dev20_nb c) 8 rfl) $$ [A0 R01 T01 W01 B0 R11 T11 W11 HO]
  · unfold agGive
    isplitr; · iexact HK
    isplitl [A0 R01 T01 W01]
    · isplitl [A0]; · iexact A0
      isplitl [R01]; · iexact R01
      isplitr; · iapply (grant_ag1 2 (by decide) 0 c); iempintro
      isplitl [T01]; · iexact T01
      iexact W01
    isplitl [B0 R11 T11 W11]
    · isplitl [B0]; · iexact B0
      isplitl [R11]; · iexact R11
      isplitr; · iapply (grant_ag1 2 (by decide) 1 c); iempintro
      isplitl [T11]; · iexact T11
      iexact W11
    iexact HO
  unfold agGot
  iintro ⟨⟨Z01, A0, A1, -⟩, ⟨Z11, B0, B1, -⟩, HO⟩
  iapply (wp_ag1 I K 2 c _ _ (dev21_nb c) (dev22_nb c) 6 rfl) $$ [A1 R02 T02 W02 B1 R12 T12 W12 HO]
  · unfold agGive
    isplitr; · iexact HK
    isplitl [A1 R02 T02 W02]
    · isplitl [A1]; · iexact A1
      isplitl [R02]; · iapply (got_ag0 2 (by decide) 1 0 rfl c); iexact R02
      isplitr; · iapply (grant_ag2 2 (by decide) 0 c); iempintro
      isplitl [T02]; · iexact T02
      iexact W02
    isplitl [B1 R12 T12 W12]
    · isplitl [B1]; · iexact B1
      isplitl [R12]; · iapply (got_ag0 2 (by decide) 0 1 rfl c); iexact R12
      isplitr; · iapply (grant_ag2 2 (by decide) 1 c); iempintro
      isplitl [T12]; · iexact T12
      iexact W12
    iexact HO
  unfold agGot
  iintro ⟨⟨Z02, A1, A2, -⟩, ⟨Z12, B1, B2, -⟩, HO⟩
  iapply Hk
  unfold agEnd overs
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [Z00 Z10 Z01 Z11 Z02 Z12]
  · isplitl [Z00]; · iexact Z00
    isplitl [Z10]; · iexact Z10
    isplitl [Z01]; · iexact Z01
    isplitl [Z11]; · iexact Z11
    isplitl [Z02]; · iexact Z02
    iexact Z12
  iexact HO

/-- The plane all-gather. -/
theorem wp_planeAG {Q : PUnit → sProp 𝕄} {k : Pg F} (c : Dev nD) :
    iprop(know I K ∗ agBegin I 0 0 c ∗ agBegin I 0 1 c ∗ ow c (dues c 6) ∗ rights 3 c)
      ⊢ iprop(((agEnd I 0 0 c ∗ agEnd I 0 1 c ∗ overs 3 c ∗ ow c (dues c 0)) -∗ WP c k Q) -∗ WP c (planeAG c k) Q) := by
  unfold planeAG rights agBegin
  iintro ⟨#HK, ⟨A3, A2, R00, R01⟩, ⟨B3, B2, R10, R11⟩, HO, ⟨T00, W00⟩, ⟨T10, W10⟩, ⟨T01, W01⟩, ⟨T11, W11⟩, ⟨T02, W02⟩, ⟨T12, W12⟩⟩ Hk
  iapply (wp_ag0 I K 0 c _ _ (dev23_nb c) (dev24_nb c) 4 rfl) $$ [A3 A2 R00 T00 W00 B3 B2 R10 T10 W10 HO]
  · unfold agGive
    isplitr; · iexact HK
    isplitl [A3 B2 R00 T00 W00]
    · isplitl [A3]; · iexact A3
      isplitl [R00]; · iexact R00
      isplitl [B2]; · iapply (give_ag0 3 (by decide) 0 1 rfl c); iexact B2
      isplitl [T00]; · iexact T00
      iexact W00
    isplitl [B3 A2 R10 T10 W10]
    · isplitl [B3]; · iexact B3
      isplitl [R10]; · iexact R10
      isplitl [A2]; · iapply (give_ag0 3 (by decide) 1 0 rfl c); iexact A2
      isplitl [T10]; · iexact T10
      iexact W10
    iexact HO
  unfold agGot
  iintro ⟨⟨Z00, A3, A0, R12⟩, ⟨Z10, B3, B0, R02⟩, HO⟩
  iapply (wp_ag0 I K 1 c _ _ (dev25_nb c) (dev26_nb c) 2 rfl) $$ [A0 R01 T01 W01 B0 R11 T11 W11 HO]
  · unfold agGive
    isplitr; · iexact HK
    isplitl [A0 R01 T01 W01]
    · isplitl [A0]; · iexact A0
      isplitl [R01]; · iexact R01
      isplitr; · iapply (grant_ag1 3 (by decide) 0 c); iempintro
      isplitl [T01]; · iexact T01
      iexact W01
    isplitl [B0 R11 T11 W11]
    · isplitl [B0]; · iexact B0
      isplitl [R11]; · iexact R11
      isplitr; · iapply (grant_ag1 3 (by decide) 1 c); iempintro
      isplitl [T11]; · iexact T11
      iexact W11
    iexact HO
  unfold agGot
  iintro ⟨⟨Z01, A0, A1, -⟩, ⟨Z11, B0, B1, -⟩, HO⟩
  iapply (wp_ag0 I K 2 c _ _ (dev27_nb c) (dev28_nb c) 0 rfl) $$ [A1 R02 T02 W02 B1 R12 T12 W12 HO]
  · unfold agGive
    isplitr; · iexact HK
    isplitl [A1 R02 T02 W02]
    · isplitl [A1]; · iexact A1
      isplitl [R02]; · iapply (got_ag0 3 (by decide) 1 0 rfl c); iexact R02
      isplitr; · iapply (grant_ag2 3 (by decide) 0 c); iempintro
      isplitl [T02]; · iexact T02
      iexact W02
    isplitl [B1 R12 T12 W12]
    · isplitl [B1]; · iexact B1
      isplitl [R12]; · iapply (got_ag0 3 (by decide) 0 1 rfl c); iexact R12
      isplitr; · iapply (grant_ag2 3 (by decide) 1 c); iempintro
      isplitl [T12]; · iexact T12
      iexact W12
    iexact HO
  unfold agGot
  iintro ⟨⟨Z02, A1, A2, -⟩, ⟨Z12, B1, B2, -⟩, HO⟩
  iapply Hk
  unfold agEnd overs
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [Z00 Z10 Z01 Z11 Z02 Z12]
  · isplitl [Z00]; · iexact Z00
    isplitl [Z10]; · iexact Z10
    isplitl [Z01]; · iexact Z01
    isplitl [Z11]; · iexact Z11
    isplitl [Z02]; · iexact Z02
    iexact Z12
  iexact HO

/-! ## The whole body -/

/-- What the body takes of its protocol, -/
def start₀ (c : Dev nD) : sProp 𝕄 :=
  iprop(know I K ∗ enterTk c ∗ rights 0 c ∗ rights 1 c ∗ rights 2 c ∗ rights 3 c)
/-- the landing buffers, -/
def slotsAll (c : Dev nD) : sProp 𝕄 := iprop(slots3 (F := F) 0 0 c ∗ slots3 0 1 c ∗ slots3 1 0 c ∗ slots3 1 1 c)
/-- and the counters it leaves at zero. -/
def stop₀ (c : Dev nD) : sProp 𝕄 := iprop(semVal (barCell c) 0 ∗ overs (F := F) 0 c ∗ overs 1 c ∗ overs 2 c ∗ overs 3 c)

/-- The body, from any contents of the result and the landing buffers, leaves the sum over the devices in the result. -/
theorem wp_bodyAt {Q : PUnit → sProp 𝕄} (c : Dev nD) (f : Out F) :
    iprop(start₀ I K c ∗ ow c (debt4 c) ∗ inP I c ∗ outP c Finset.univ f ∗ slotsAll c)
      ⊢ iprop(((stop₀ c ∗ ow c 0 ∗ inP I c ∗ outP c Finset.univ (result I) ∗ slotsAll c) -∗ Q ⟨⟩) -∗ WP c (bodyAt c) Q) := by
  unfold bodyAt start₀ slotsAll
  iintro ⟨⟨#HK, HE, R0, R1, R2, R3⟩, HO, Hi, Hout, S00, S01, S10, S11⟩ Hk
  ihave Hout := (whole_groups c f).1 $$ Hout
  icases Hout with ⟨G0, G1, G2, G3⟩
  iapply (wp_enter I K c) $$ [HE HO S00 S01 S10 S11]
  · isplitr; · iexact HK
    isplitl [HE]; · iexact HE
    isplitl [HO]; · iexact HO
    isplitl [S00]; · iexact S00
    isplitl [S01]; · iexact S01
    isplitl [S10]; · iexact S10
    iexact S11
  iintro ⟨HzB, HO, S00, S01, S10, S11⟩
  iapply (wp_ownGroup I c f) $$ [Hi G0]
  · isplitl [Hi]; · iexact Hi
    iexact G0
  iintro ⟨Hi, G0⟩
  iapply (wp_planeRS I K c f) $$ [Hi G0 G1 G2 G3 S00 S01 HO R0]
  · isplitr; · iexact HK
    isplitl [Hi]; · iexact Hi
    isplitl [G0]; · iexact G0
    isplitl [G1]; · iexact G1
    isplitl [G2]; · iexact G2
    isplitl [G3]; · iexact G3
    isplitl [S00]; · iexact S00
    isplitl [S01]; · iexact S01
    isplitl [HO]; · iexact HO
    iexact R0
  unfold rsEnd
  iintro ⟨Hi, ⟨A3, A2, M00, M01, S00⟩, ⟨B3, B2, M10, M11, S01⟩, Z0, HO⟩
  rw [← acc_one_zero I 0 c, ← acc_one_zero I 1 c]
  ihave A3 := (piece_quarters 0 c (acc I 1 0 0 c)).1 $$ A3
  ihave B3 := (piece_quarters 1 c (acc I 1 1 0 c)).1 $$ B3
  iapply (wp_otherRS I K c) $$ [A3 B3 S10 S11 HO R1]
  · isplitr; · iexact HK
    isplitl [A3]; · iexact A3
    isplitl [B3]; · iexact B3
    isplitl [S10]; · iexact S10
    isplitl [S11]; · iexact S11
    isplitl [HO]; · iexact HO
    iexact R1
  unfold rsEnd
  iintro ⟨⟨C3, C2, N00, N01, S10⟩, ⟨D3, D2, N10, N11, S11⟩, Z1, HO⟩
  ihave C3 := (Entails.of_eq (outP_eqv (acc_fin I 0 c))) $$ C3
  ihave D3 := (Entails.of_eq (outP_eqv (acc_fin I 1 c))) $$ D3
  iapply (wp_otherAG I K c) $$ [C3 C2 N00 N01 D3 D2 N10 N11 HO R2]
  · unfold agBegin
    isplitr; · iexact HK
    isplitl [C3 C2 N00 N01]
    · isplitl [C3]; · iexact C3
      isplitl [C2]; · iexact C2
      isplitl [N00]; · iexact N00
      iexact N01
    isplitl [D3 D2 N10 N11]
    · isplitl [D3]; · iexact D3
      isplitl [D2]; · iexact D2
      isplitl [N10]; · iexact N10
      iexact N11
    isplitl [HO]; · iexact HO
    iexact R2
  unfold agEnd
  iintro ⟨HC, HD, Z2, HO⟩
  ihave A3 := (piece_quarters 0 c (fin I 0)).2 $$ HC
  ihave B3 := (piece_quarters 1 c (fin I 1)).2 $$ HD
  iapply (wp_planeAG I K c) $$ [A3 A2 M00 M01 B3 B2 M10 M11 HO R3]
  · unfold agBegin
    isplitr; · iexact HK
    isplitl [A3 A2 M00 M01]
    · isplitl [A3]; · iexact A3
      isplitl [A2]; · iexact A2
      isplitl [M00]; · iexact M00
      iexact M01
    isplitl [B3 B2 M10 M11]
    · isplitl [B3]; · iexact B3
      isplitl [B2]; · iexact B2
      isplitl [M10]; · iexact M10
      iexact M11
    isplitl [HO]; · iexact HO
    iexact R3
  unfold agEnd
  iintro ⟨HA, HB, Z3, HO⟩
  unfold WP; rw [wp_ret]; imodintro
  iapply Hk
  unfold stop₀
  isplitl [HzB Z0 Z1 Z2 Z3]
  · isplitl [HzB]; · iexact HzB
    isplitl [Z0]; · iexact Z0
    isplitl [Z1]; · iexact Z1
    isplitl [Z2]; · iexact Z2
    iexact Z3
  isplitl [HO]; · iexact HO
  isplitl [Hi]; · iexact Hi
  isplitl [HA HB]
  · iapply (all_done I c)
    isplitl [HA]; · iexact HA
    iexact HB
  isplitl [S00]; · iexact S00
  isplitl [S01]; · iexact S01
  isplitl [S10]; · iexact S10
  iexact S11

end Cert.KernelIdeal.Moe
-- ==== Proof.KernelIdeal.Slots.lean ====
/-
The landing buffers, whole and slot by slot.
-/
module

public import proofs.«01_k».proof.Proof.KernelIdeal.Body
public import Idealize.ShloMosaic.Lib.Ring

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot_set0 (d : Fin 2) (s : Fin 3) : (slot0 d s).view.set = (srect0 d s).set := by
  rw [View.set_reshape]; exact View.set_slice_whole _ _
theorem slot_set1 (d : Fin 2) (s : Fin 3) : (slot1 d s).view.set = (srect1 d s).set := by
  rw [View.set_reshape]; exact View.set_slice_whole _ _

theorem slots_disjoint0 : ∀ b b' : Fin 2 × Fin 3, b ≠ b' → Disjoint (srect0 b.1 b.2).set (srect0 b'.1 b'.2).set := fun b b' h => by
  rw [Finset.disjoint_left]
  intro x hx hx'
  rw [Rect.mem_set_unit] at hx hx'
  have h0 := hx 0; have h1 := hx 1; have h0' := hx' 0; have h1' := hx' 1
  refine h (Prod.ext (Fin.ext ?_) (Fin.ext ?_))
  · change b.1.val ≤ _ ∧ _ < b.1.val + 1 at h0; change b'.1.val ≤ _ ∧ _ < b'.1.val + 1 at h0'; omega
  · change b.2.val ≤ _ ∧ _ < b.2.val + 1 at h1; change b'.2.val ≤ _ ∧ _ < b'.2.val + 1 at h1'; omega
theorem slots_disjoint1 : ∀ b b' : Fin 2 × Fin 3, b ≠ b' → Disjoint (srect1 b.1 b.2).set (srect1 b'.1 b'.2).set := fun b b' h => by
  rw [Finset.disjoint_left]
  intro x hx hx'
  rw [Rect.mem_set_unit] at hx hx'
  have h0 := hx 0; have h1 := hx 1; have h0' := hx' 0; have h1' := hx' 1
  refine h (Prod.ext (Fin.ext ?_) (Fin.ext ?_))
  · change b.1.val ≤ _ ∧ _ < b.1.val + 1 at h0; change b'.1.val ≤ _ ∧ _ < b'.1.val + 1 at h0'; omega
  · change b.2.val ≤ _ ∧ _ < b.2.val + 1 at h1; change b'.2.val ≤ _ ∧ _ < b'.2.val + 1 at h1'; omega

theorem slots_cover0 : (Finset.univ : Finset (Fin 2 × Fin 3)).biUnion (fun b => (srect0 b.1 b.2).set) = Finset.univ := by
  refine Finset.eq_univ_of_forall fun x => Finset.mem_biUnion.2 ⟨((⟨(x 0).val, (x 0).isLt⟩ : Fin 2), (⟨(x 1).val, (x 1).isLt⟩ : Fin 3)), Finset.mem_univ _, ?_⟩
  rw [Rect.mem_set_unit]
  intro a
  have := (x a).isLt
  fin_cases a
  · exact ⟨le_refl _, Nat.lt_succ_self _⟩
  · exact ⟨le_refl _, Nat.lt_succ_self _⟩
  · exact ⟨Nat.zero_le _, by simpa using this⟩
  · exact ⟨Nat.zero_le _, by simpa using this⟩
theorem slots_cover1 : (Finset.univ : Finset (Fin 2 × Fin 3)).biUnion (fun b => (srect1 b.1 b.2).set) = Finset.univ := by
  refine Finset.eq_univ_of_forall fun x => Finset.mem_biUnion.2 ⟨((⟨(x 0).val, (x 0).isLt⟩ : Fin 2), (⟨(x 1).val, (x 1).isLt⟩ : Fin 3)), Finset.mem_univ _, ?_⟩
  rw [Rect.mem_set_unit]
  intro a
  have := (x a).isLt
  fin_cases a
  · exact ⟨le_refl _, Nat.lt_succ_self _⟩
  · exact ⟨le_refl _, Nat.lt_succ_self _⟩
  · exact ⟨Nat.zero_le _, by simpa using this⟩
  · exact ⟨Nat.zero_le _, by simpa using this⟩

/-- The six slots one by one. -/
theorem six (Φ : Fin 2 × Fin 3 → sProp 𝕄) :
    bigSep Finset.univ Φ = iprop((Φ (0, 0) ∗ Φ (0, 1) ∗ Φ (0, 2)) ∗ (Φ (1, 0) ∗ Φ (1, 1) ∗ Φ (1, 2))) := by
  rw [bigSep_univ_prod, bigSep_univ_eq_bigSepL [(0 : Fin 2), 1] (by decide) (by decide), bigSepL_cons_cons, bigSepL_singleton,
    bigSep_univ_eq_bigSepL [(0 : Fin 3), 1, 2] (by decide) (by decide), bigSep_univ_eq_bigSepL [(0 : Fin 3), 1, 2] (by decide) (by decide)]
  rfl

theorem slotAny_eq0 (d : Fin 2) (s : Fin 3) (c : Dev nD) : (slotAny (F := F) 0 d s c : sProp 𝕄)
    = iprop(∃ g : Buf (Elt F) ((c : Thread nD τ).loc cc0_scratch0), ((c : Thread nD τ).loc cc0_scratch0) ↦[(srect0 d s).set]{fullShare} g) := by
  unfold slotAny; rw [if_pos rfl, slot_set0]
theorem slotAny_eq1 (d : Fin 2) (s : Fin 3) (c : Dev nD) : (slotAny (F := F) 1 d s c : sProp 𝕄)
    = iprop(∃ g : Buf (Elt F) ((c : Thread nD τ).loc cc0_scratch1), ((c : Thread nD τ).loc cc0_scratch1) ↦[(srect1 d s).set]{fullShare} g) := by
  unfold slotAny; rw [if_neg (by decide), slot_set1]

/-- The two landing buffers whole, with any contents, -/
def bufsAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- are their slots with any contents. -/
theorem bufs_split (c : Dev nD) : (bufsAny (F := F) c : sProp 𝕄) ⊢ slotsAll c := by
  have h0 (f : Buf (Elt F) ((c : Thread nD τ).loc cc0_scratch0)) : (((c : Thread nD τ).loc cc0_scratch0) ↦{fullShare} f : sProp 𝕄) ⊢ iprop(slots3 0 0 c ∗ slots3 0 1 c) := by
    unfold slots3
    simp only [slotAny_eq0]
    rw [Ring.pointsTo_blocks (fun b : Fin 2 × Fin 3 => (srect0 b.1 b.2).set) slots_disjoint0 slots_cover0, ← six (fun b : Fin 2 × Fin 3 =>
      iprop(∃ g : Buf (Elt F) ((c : Thread nD τ).loc cc0_scratch0), ((c : Thread nD τ).loc cc0_scratch0) ↦[(srect0 b.1 b.2).set]{fullShare} g))]
    exact bigSep_mono fun b _ => by refine (show _ ⊢ (_ : sProp 𝕄) from ?_); iintro H; iexists f; iexact H
  have h1 (f : Buf (Elt F) ((c : Thread nD τ).loc cc0_scratch1)) : (((c : Thread nD τ).loc cc0_scratch1) ↦{fullShare} f : sProp 𝕄) ⊢ iprop(slots3 1 0 c ∗ slots3 1 1 c) := by
    unfold slots3
    simp only [slotAny_eq1]
    rw [Ring.pointsTo_blocks (fun b : Fin 2 × Fin 3 => (srect1 b.1 b.2).set) slots_disjoint1 slots_cover1, ← six (fun b : Fin 2 × Fin 3 =>
      iprop(∃ g : Buf (Elt F) ((c : Thread nD τ).loc cc0_scratch1), ((c : Thread nD τ).loc cc0_scratch1) ↦[(srect1 b.1 b.2).set]{fullShare} g))]
    exact bigSep_mono fun b _ => by refine (show _ ⊢ (_ : sProp 𝕄) from ?_); iintro H; iexists f; iexact H
  unfold bufsAny slotsAll
  iintro ⟨⟨%f, H⟩, ⟨%g, G⟩⟩
  ihave H := (h0 f) $$ H
  ihave G := (h1 g) $$ G
  icases H with ⟨H0, H1⟩
  icases G with ⟨G0, G1⟩
  isplitl [H0]; · iexact H0
  isplitl [H1]; · iexact H1
  isplitl [G0]; · iexact G0
  iexact G1

theorem bufs_join (c : Dev nD) : (slotsAll (F := F) c : sProp 𝕄) ⊢ bufsAny c := by
  unfold slotsAll bufsAny slots3
  simp only [slotAny_eq0, slotAny_eq1]
  iintro ⟨H0, H1, G0, G1⟩
  isplitl [H0 H1]
  · iapply (Ring.pointsTo_blocks_join_exists (fun b : Fin 2 × Fin 3 => (srect0 b.1 b.2).set) slots_disjoint0 slots_cover0
      (ℓ := (c : Thread nD τ).loc cc0_scratch0) (fun _ => Scalar.ofBits (F := F) .f32 0x00000000#32))
    rw [six]
    isplitl [H0]; · iexact H0
    iexact H1
  · iapply (Ring.pointsTo_blocks_join_exists (fun b : Fin 2 × Fin 3 => (srect1 b.1 b.2).set) slots_disjoint1 slots_cover1
      (ℓ := (c : Thread nD τ).loc cc0_scratch1) (fun _ => Scalar.ofBits (F := F) .f32 0x00000000#32))
    rw [six]
    isplitl [G0]; · iexact G0
    iexact G1

end Cert.KernelIdeal.Moe
-- ==== Proof.KernelIdeal.Deal.lean ====
/-
What the launch deals out: every device the rights to its own copies and waits.
-/
module

public import proofs.«01_k».proof.Proof.KernelIdeal.Slots

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Staged F)

/-- A copy: its phase, direction and step. -/
abbrev Copy : Type := Fin 4 × Fin 2 × Fin 3

/-! ## Conjunctions over the cells -/

def sendE : Copy ↪ Fin 49 := ⟨fun q => sendIx q.1 q.2.1 q.2.2, by decide +kernel⟩
def recvE : Copy ↪ Fin 49 := ⟨fun q => recvIx q.1 q.2.1 q.2.2, by decide +kernel⟩

theorem cells_cover : (Finset.univ : Finset (Fin 49)) = (Finset.univ.map sendE ∪ Finset.univ.map recvE) ∪ {48} := by decide +kernel
theorem cells_disjoint : Disjoint ((Finset.univ : Finset Copy).map sendE) (Finset.univ.map recvE) := by decide +kernel
theorem cells_disjoint' : Disjoint ((Finset.univ : Finset Copy).map sendE ∪ Finset.univ.map recvE) {48} := by decide +kernel

/-- Over a device's cells: over its copies' two cells each, and its barrier's. -/
theorem over_cells (Φ : Fin 49 → sProp 𝕄) : bigSep Finset.univ Φ
    = iprop((bigSep Finset.univ fun q : Copy => iprop(Φ (sendIx q.1 q.2.1 q.2.2) ∗ Φ (recvIx q.1 q.2.1 q.2.2))) ∗ Φ 48) := by
  rw [cells_cover, bigSep_union cells_disjoint', bigSep_union cells_disjoint, bigSep_map, bigSep_map, bigSep_singleton, bigSep_sep']
  rfl

/-- The six copies of a phase in the order they are started. -/
abbrev ofPhase (Ψ : Fin 4 → Fin 2 → Fin 3 → sProp 𝕄) (p : Fin 4) : sProp 𝕄 :=
  iprop(Ψ p 0 0 ∗ Ψ p 1 0 ∗ Ψ p 0 1 ∗ Ψ p 1 1 ∗ Ψ p 0 2 ∗ Ψ p 1 2)

theorem over_copies (Ψ : Fin 4 → Fin 2 → Fin 3 → sProp 𝕄) : (bigSep Finset.univ fun q : Copy => Ψ q.1 q.2.1 q.2.2)
    = iprop(ofPhase Ψ 0 ∗ ofPhase Ψ 1 ∗ ofPhase Ψ 2 ∗ ofPhase Ψ 3) := by
  have h (p : Fin 4) : (bigSep Finset.univ fun ds : Fin 2 × Fin 3 => Ψ p ds.1 ds.2) = ofPhase Ψ p := by
    rw [bigSep_univ_eq_bigSepL [((0 : Fin 2), (0 : Fin 3)), (1, 0), (0, 1), (1, 1), (0, 2), (1, 2)] (by decide) (by decide)]; rfl
  rw [bigSep_univ_prod, bigSep_univ_eq_bigSepL [(0 : Fin 4), 1, 2, 3] (by decide) (by decide)]
  simp only [bigSepL_cons_cons, bigSepL_singleton, h]
  rfl

/-! ## The credits -/

/-- The place of a copy in the order of the debts. -/
def place : Copy ↪ ℕ := ⟨fun q => 23 - (6 * q.1.val + 2 * q.2.2.val + q.2.1.val), by decide +kernel⟩
theorem place_cover : Finset.range 24 = (Finset.univ : Finset Copy).map place := by decide +kernel
theorem at_place : ∀ q : Copy, ordP (23 - place q) = q.1 ∧ ordD (23 - place q) = q.2.1 ∧ ordS (23 - place q) = q.2.2 := by decide +kernel

/-- The credit of the wait that the `n`-th debt from the end pays. -/
def owedCred (c : Dev nD) (n : ℕ) : sProp 𝕄 :=
  cred (tallyAt (recvCell (ordP (23 - n)) (ordD (23 - n)) (ordS (23 - n)) c) () (crd (lvl (ordP (23 - n)))))

theorem dues_cred (c : Dev nD) : ∀ n, (Pipeline.launchCred (fun d => dues d n) c : sProp 𝕄) ⊢ bigSep (Finset.range n) (owedCred c)
  | 0 => by rw [Finset.range_zero, bigSep_empty]; exact Entails.of_eq (Pipeline.launchCred_zero c)
  | n + 1 => by
    rw [Finset.range_add_one, bigSep_insert (by simp)]
    show (Pipeline.launchCred (fun d => dues d n + tallyAt (dueCell d (23 - n)) () (crd (lvl (ordP (23 - n))))) c : sProp 𝕄)
      ⊢ iprop(owedCred c n ∗ bigSep (Finset.range n) (owedCred c))
    rw [Pipeline.launchCred_add (fun d => dues d n) (fun d => tallyAt (dueCell d (23 - n)) () (crd (lvl (ordP (23 - n))))) c]
    iintro ⟨H1, H2⟩
    isplitl [H2]
    · iapply (show _ ⊢ owedCred c n from Pipeline.launchCred_tallyAt (.dma (recvS (ordP (23 - n)) (ordD (23 - n)) (ordS (23 - n))))
        (nb (lvl (ordP (23 - n))) (ordD (23 - n))) (src (lvl (ordP (23 - n))) (ordD (23 - n))) (nb_src _ _) (src_nb _ _) () (crd (lvl (ordP (23 - n)))) c)
      iexact H2
    · iapply (dues_cred c n); iexact H1

/-- What the devices owe each other at entry gives a device the credits of its waits. -/
theorem entry_cred (c : Dev nD) : (Pipeline.launchCred debt4 c : sProp 𝕄)
    ⊢ iprop((bigSep Finset.univ fun q : Copy => cred (tallyAt (recvCell q.1 q.2.1 q.2.2 c) () (crd (lvl q.1)))) ∗ cred (tallyAt (barCell c) () 4)) := by
  have hb (l d : Fin 2) : (Pipeline.launchCred (fun e => tallyAt (barCell (nb l d e)) () 1) c : sProp 𝕄) ⊢ cred (tallyAt (barCell c) () 1) :=
    Pipeline.launchCred_tallyAt (.reg barS) (nb l d) (src l d) (nb_src l d) (src_nb l d) () 1 c
  have hd : bigSep (Finset.range 24) (owedCred (F := F) c) = bigSep Finset.univ fun q : Copy => cred (tallyAt (recvCell q.1 q.2.1 q.2.2 c) () (crd (lvl q.1))) := by
    rw [place_cover, bigSep_map]
    exact bigSep_congr fun q _ => by unfold owedCred; rw [(at_place q).1, (at_place q).2.1, (at_place q).2.2]
  have h4 : (cred (tallyAt (barCell c) () 4) : sProp 𝕄) = iprop(cred (tallyAt (barCell c) () 1) ∗ cred (tallyAt (barCell c) () 1) ∗ cred (tallyAt (barCell c) () 1) ∗ cred (tallyAt (barCell c) () 1)) := by
    have h2 (a b : ℕ) : (tallyAt (barCell c) () (a + b) : CellTallies nD τ sig Unit) = tallyAt (barCell c) () a + tallyAt (barCell c) () b := (tallyAt_add _ _ _ _).symm
    have h3 (a b : ℕ) : (cred (tallyAt (barCell c) () (a + b)) : sProp 𝕄) = iprop(cred (tallyAt (barCell c) () a) ∗ cred (tallyAt (barCell c) () b)) := by
      rw [h2]; exact BI.Entails.antisymm (cred_add _ _).1 (cred_add _ _).2
    rw [show 4 = 1 + (1 + (1 + 1)) from rfl, h3, h3, h3]
  show (Pipeline.launchCred (fun d => (((dues d 24 + tallyAt (barCell (nb 1 1 d)) () 1) + tallyAt (barCell (nb 1 0 d)) () 1)
    + tallyAt (barCell (nb 0 1 d)) () 1) + tallyAt (barCell (nb 0 0 d)) () 1) c : sProp 𝕄) ⊢ _
  rw [Pipeline.launchCred_add (fun d => ((dues d 24 + tallyAt (barCell (nb 1 1 d)) () 1) + tallyAt (barCell (nb 1 0 d)) () 1) + tallyAt (barCell (nb 0 1 d)) () 1),
    Pipeline.launchCred_add (fun d => (dues d 24 + tallyAt (barCell (nb 1 1 d)) () 1) + tallyAt (barCell (nb 1 0 d)) () 1),
    Pipeline.launchCred_add (fun d => dues d 24 + tallyAt (barCell (nb 1 1 d)) () 1), Pipeline.launchCred_add (fun d => dues d 24), h4, ← hd]
  iintro ⟨⟨⟨⟨Hd, H1⟩, H2⟩, H3⟩, H4⟩
  isplitl [Hd]; · iapply (dues_cred c 24); iexact Hd
  isplitl [H1]; · iapply (hb 1 1); iexact H1
  isplitl [H2]; · iapply (hb 1 0); iexact H2
  isplitl [H3]; · iapply (hb 0 1); iexact H3
  iapply (hb 0 0); iexact H4

/-! ## The tokens -/

theorem csem_injective : Function.Injective csem := by decide +kernel
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩
/-- A token of each name for each cell. -/
def allToks : Finset (GSem nD τ sig × ℕ × Duty) :=
  (Finset.univ : Finset ((Dev nD × Fin 49) × Duty)).map ⟨fun x => (kcell x.1, 0, x.2), fun x y h => by
    have h1 := kcell_injective (congrArg Prod.fst h)
    have h2 : x.2 = y.2 := congrArg (fun z : GSem nD τ sig × ℕ × Duty => z.2.2) h
    exact Prod.ext h1 h2⟩

abbrev tok (c : Dev nD) (k : Fin 49) (e : Duty) : sProp 𝕄 := dutyTok ER (kcell (c, k)) 0 e

/-- The rights to the four signals. -/
def tells (c : Dev nD) : sProp 𝕄 :=
  iprop(dutyTok ER (barCell (nb 0 0 c)) 0 (0, opp 0) ∗ dutyTok ER (barCell (nb 0 1 c)) 0 (0, opp 1) ∗ dutyTok ER (barCell (nb 1 0 c)) 0 (1, opp 0)
    ∗ dutyTok ER (barCell (nb 1 1 c)) 0 (1, opp 1))

theorem toks_own (c : Dev nD) : (bigSep Finset.univ fun k : Fin 49 => bigSep Finset.univ fun e : Duty => tok (F := F) c k e)
    ⊢ iprop((bigSep Finset.univ fun q : Copy => dutyTok ER (sendCell q.1 q.2.1 q.2.2 c) 0 (0, 0))
      ∗ (bigSep Finset.univ fun q : Copy => dutyTok ER (recvCell q.1 q.2.1 q.2.2 c) 0 (0, 0))
      ∗ dutyTok ER (barCell c) 0 (0, opp 0) ∗ dutyTok ER (barCell c) 0 (0, opp 1) ∗ dutyTok ER (barCell c) 0 (1, opp 0) ∗ dutyTok ER (barCell c) 0 (1, opp 1)) := by
  have hb : (bigSep Finset.univ fun e : Duty => tok (F := F) c 48 e)
      = iprop(dutyTok ER (barCell c) 0 (0, opp 0) ∗ dutyTok ER (barCell c) 0 (0, opp 1) ∗ dutyTok ER (barCell c) 0 (1, opp 0) ∗ dutyTok ER (barCell c) 0 (1, opp 1)) := by
    rw [bigSep_univ_eq_bigSepL [((0, opp 0) : Duty), (0, opp 1), (1, opp 0), (1, opp 1)] (by decide) (by decide)]; rfl
  have hs : (bigSep Finset.univ fun q : Copy => bigSep Finset.univ fun e : Duty => tok (F := F) c (sendIx q.1 q.2.1 q.2.2) e)
      ⊢ bigSep Finset.univ fun q : Copy => dutyTok ER (sendCell q.1 q.2.1 q.2.2 c) 0 (0, 0) :=
    bigSep_mono fun q _ => by unfold tok; rw [kcell_send]; exact bigSep_elim (Finset.mem_univ ((0, 0) : Duty))
  have hr : (bigSep Finset.univ fun q : Copy => bigSep Finset.univ fun e : Duty => tok (F := F) c (recvIx q.1 q.2.1 q.2.2) e)
      ⊢ bigSep Finset.univ fun q : Copy => dutyTok ER (recvCell q.1 q.2.1 q.2.2 c) 0 (0, 0) :=
    bigSep_mono fun q _ => by unfold tok; rw [kcell_recv]; exact bigSep_elim (Finset.mem_univ ((0, 0) : Duty))
  rw [over_cells, bigSep_sep', hb]
  iintro ⟨⟨Hs, Hr⟩, H1, H2, H3, H4⟩
  isplitl [Hs]
  · iapply hs; iexact Hs
  isplitl [Hr]
  · iapply hr; iexact Hr
  isplitl [H1]; · iexact H1
  isplitl [H2]; · iexact H2
  isplitl [H3]; · iexact H3
  iexact H4

/-- A token of every device's is a token of every device's neighbour. -/
theorem deal (l d : Fin 2) (Φ : Dev nD → sProp 𝕄) : bigSep Finset.univ Φ = bigSep Finset.univ fun c => Φ (nb l d c) :=
  bigSep_univ_equiv (ringEquiv l d) Φ

theorem deal_copies (Φ : Copy → Dev nD → sProp 𝕄) : (bigSep Finset.univ fun c : Dev nD => bigSep Finset.univ fun q : Copy => Φ q c)
    = bigSep Finset.univ fun c : Dev nD => bigSep Finset.univ fun q : Copy => Φ q (nb (lvl q.1) q.2.1 c) := by
  rw [bigSep_univ_comm, bigSep_univ_comm (fun (c : Dev nD) (q : Copy) => Φ q (nb (lvl q.1) q.2.1 c))]
  exact bigSep_congr fun q _ => deal (lvl q.1) q.2.1 (Φ q)

/-- The tokens, each dealt to the device that pays with it. -/
theorem toks_around : (bigSep Finset.univ fun c : Dev nD => bigSep Finset.univ fun k : Fin 49 => bigSep Finset.univ fun e : Duty => tok (F := F) c k e)
    ⊢ bigSep Finset.univ fun c : Dev nD => iprop((bigSep Finset.univ fun q : Copy => stk q.1 q.2.1 q.2.2 c) ∗ tells c) := by
  refine (bigSep_mono fun c _ => toks_own c).trans ?_
  unfold stk tells
  simp only [bigSep_sep']
  rw [deal_copies (fun q c => (dutyTok ER (recvCell q.1 q.2.1 q.2.2 c) 0 (0, 0) : sProp 𝕄)),
    deal 0 0 (fun c => (dutyTok ER (barCell c) 0 (0, opp 0) : sProp 𝕄)), deal 0 1 (fun c => (dutyTok ER (barCell c) 0 (0, opp 1) : sProp 𝕄)),
    deal 1 0 (fun c => (dutyTok ER (barCell c) 0 (1, opp 0) : sProp 𝕄)), deal 1 1 (fun c => (dutyTok ER (barCell c) 0 (1, opp 1) : sProp 𝕄))]
  refine (show _ ⊢ (_ : sProp 𝕄) from ?_)
  iintro ⟨H1, H2, H3⟩
  isplitl [H1 H2]
  · isplitl [H1]; · iexact H1
    iexact H2
  iexact H3

/-! ## The semaphores -/

/-- The kernel's own semaphores: each copy's departure and arrival. -/
def osem : Copy × Bool → SemLoc sig := fun x => if x.2 then .dma (recvS x.1.1 x.1.2.1 x.1.2.2) else .dma (sendS x.1.1 x.1.2.1 x.1.2.2)

theorem ownSems_eq (c : Dev nD) : (Pipeline.ownSems0 (Ix := Unit) (Name := ℕ) (U := UU) (Lvl := ℕ) (Val := Elt F) (τ := τ) osem c : sProp 𝕄)
    = bigSep Finset.univ fun q : Copy => over (F := F) q.1 q.2.1 q.2.2 c := by
  unfold Pipeline.ownSems0
  rw [bigSep_univ_prod]
  exact bigSep_congr fun q _ => by rw [bigSep_univ_eq_bigSepL [false, true] (by decide) (by decide)]; rfl

theorem unscoped_eq (c : Dev nD) : (unscopedSems0 c : sProp 𝕄) = semVal (barCell c) 0 := by
  unfold unscopedSems0; rw [bigSep_eq_bigSepL_of_eq [SemLoc.reg barS] (by decide) (by decide)]; rfl

/-- At entry they are the cells' counters, at zero. -/
theorem sems_in (c : Dev nD) : iprop(Pipeline.ownSems0 (Ix := Unit) (Name := ℕ) (U := UU) (Lvl := ℕ) (Val := Elt F) (τ := τ) osem c ∗ unscopedSems0 c)
    ⊢ (bigSep Finset.univ fun k : Fin 49 => semVal (kcell (c, k)) 0 : sProp 𝕄) := by
  rw [ownSems_eq, unscoped_eq, over_cells]
  simp only [kcell_send, kcell_recv]
  exact Entails.of_eq rfl

/-- And at exit the body leaves them at zero. -/
theorem sems_out (c : Dev nD) : (stop₀ (F := F) c : sProp 𝕄)
    ⊢ iprop(unscopedSems0 c ∗ Pipeline.ownSems0 (Ix := Unit) (Name := ℕ) (U := UU) (Lvl := ℕ) (Val := Elt F) (τ := τ) osem c) := by
  rw [ownSems_eq, unscoped_eq, over_copies (fun p d s => over p d s c)]
  exact Entails.of_eq rfl

/-! ## The launch element and the global step -/

/-- What the launch deals a device before the cells' invariants are made, -/
def G (c : Dev nD) : sProp 𝕄 :=
  iprop((bigSep Finset.univ fun k : Fin 49 => roundState ER (sched I) (kcell (c, k)) 0)
    ∗ (bigSep Finset.univ fun k : Fin 49 => atPos ER (kcell (c, k)) 0 ∅ 0) ∗ (bigSep Finset.univ fun k : Fin 49 => reached ER (kcell (c, k)) 0)
    ∗ (bigSep Finset.univ fun k : Fin 49 => bigSep Finset.univ fun e : Duty => tok c k e))
/-- and after. -/
def mine (c : Dev nD) : sProp 𝕄 :=
  iprop((bigSep Finset.univ fun k : Fin 49 => atPos ER (kcell (c, k)) 0 ∅ 0) ∗ (bigSep Finset.univ fun q : Copy => stk q.1 q.2.1 q.2.2 c) ∗ tells c)
def G' (c : Dev nD) : sProp 𝕄 := iprop(∃ K, records I K ∗ mine c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 49 => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Fin 49 => bigSep Finset.univ fun e : Duty => tok c k e := by
    unfold allToks; rw [bigSep_map, bigSep_univ_prod, bigSep_univ_prod]; rfl
  iintro HX
  imod (Rounds.fund ER (sched I) allCells allToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- One device's cells get their invariants. -/
theorem cells_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (sched I) κ (kcell (c, k))))
          ∗ (bigSep Finset.univ fun k : Fin 49 => atPos ER (kcell (c, k)) 0 ∅ 0) ∗ (bigSep Finset.univ fun k : Fin 49 => reached ER (kcell (c, k)) 0)
          ∗ (bigSep Finset.univ fun k : Fin 49 => bigSep Finset.univ fun e : Duty => tok c k e)) := by
  unfold G
  iintro ⟨Hos, Hus, Hst, Hrest⟩
  ihave Hv := (sems_in (F := F) c) $$ [Hos Hus]
  · isplitl [Hos]; · iexact Hos
    iexact Hus
  imod (show iprop((bigSep Finset.univ fun k : Fin 49 => semVal (kcell (c, k)) 0) ∗ bigSep Finset.univ fun k : Fin 49 => roundState ER (sched I) (kcell (c, k)) 0)
      ⊢ (|={Set.univ}=> bigSep Finset.univ fun k => iprop(∃ κ : ℕ, cellInv ER (sched I) κ (kcell (c, k))) : sProp 𝕄) from by
        rw [← bigSep_sep']
        exact (bigSep_mono fun k _ => (Rounds.body_intro ER (sched I) (kcell (c, k))).trans inv_alloc).trans (bigSep_fupd _ _)) $$ [Hv Hst] with Hinv
  · isplitl [Hv]; · iexact Hv
    iexact Hst
  imodintro
  isplitl [Hinv]; · iexact Hinv
  iexact Hrest

/-- The devices' invariants, gathered, are every device's to use. -/
theorem gather : (bigSep Finset.univ fun c : Dev nD => iprop((bigSep Finset.univ fun k => iprop(∃ κ : ℕ, cellInv ER (sched I) κ (kcell (c, k))))
          ∗ (bigSep Finset.univ fun k : Fin 49 => atPos ER (kcell (c, k)) 0 ∅ 0) ∗ (bigSep Finset.univ fun k : Fin 49 => reached ER (kcell (c, k)) 0)
          ∗ (bigSep Finset.univ fun k : Fin 49 => bigSep Finset.univ fun e : Duty => tok c k e)) : sProp 𝕄)
    ⊢ bigSep Finset.univ (G' I) := by
  rw [bigSep_sep', bigSep_sep', bigSep_sep', ← bigSep_univ_prod (fun ck : Dev nD × Fin 49 => iprop(∃ κ : ℕ, cellInv ER (sched I) κ (kcell ck))),
    ← bigSep_univ_prod (fun ck : Dev nD × Fin 49 => (reached ER (kcell ck) 0 : sProp 𝕄))]
  iintro ⟨HI, Hat, #HR, Htok⟩
  ihave HK := (BI.bigSep_exists_pi Finset.univ (fun (ck : Dev nD × Fin 49) (κ : ℕ) => (cellInv ER (sched I) κ (kcell ck) : sProp 𝕄))) $$ HI
  icases HK with ⟨%K, #HI⟩
  ihave Htk := (toks_around (F := F)) $$ Htok
  ihave Hm := (Entails.of_eq (bigSep_sep' Finset.univ (fun c : Dev nD => bigSep Finset.univ fun k : Fin 49 => (atPos ER (kcell (c, k)) 0 ∅ 0 : sProp 𝕄))
    (fun c : Dev nD => iprop((bigSep Finset.univ fun q : Copy => stk q.1 q.2.1 q.2.2 c) ∗ tells c))).symm) $$ [Hat Htk]
  · isplitl [Hat]; · iexact Hat
    iexact Htk
  ihave #Hrec := (show iprop((bigSep Finset.univ fun ck : Dev nD × Fin 49 => (cellInv ER (sched I) (K ck) (kcell ck) : sProp 𝕄))
      ∗ bigSep Finset.univ fun ck : Dev nD × Fin 49 => (reached ER (kcell ck) 0 : sProp 𝕄)) ⊢ records I K from Entails.of_eq rfl) $$ []
  · isplitr; · iexact HI
    iexact HR
  iapply (show iprop(records I K ∗ bigSep Finset.univ fun c : Dev nD => mine c) ⊢ bigSep Finset.univ (G' I) from
    (sep_mono_left (BI.bigSep_of_persistent Finset.univ (records I K))).trans (by
      rw [← bigSep_sep']
      exact bigSep_mono fun c _ => by
        unfold G'
        refine (show _ ⊢ (_ : sProp 𝕄) from ?_)
        iintro H; iexists K; iexact H))
  isplitr; · iexact Hrec
  iexact Hm

/-- The global step: all the devices' semaphores at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => cells_alloc I c).trans (bigSep_fupd _ _)).trans (BI.fupd_mono (gather I))

/-- With the levels and its credits, that is what a device's body starts from. -/
theorem start_of (c : Dev nD) : iprop(G' I c ∗ levAts L lv ∗ Pipeline.launchCred debt4 c) ⊢ (iprop(∃ K, start₀ I K c) : sProp 𝕄) := by
  unfold G' mine start₀ know
  iintro ⟨⟨%K, #HR, Hat, Hst, Ht⟩, #Hl, Hc⟩
  ihave Hc := (entry_cred c) $$ Hc
  icases Hc with ⟨Hc, HcB⟩
  ihave Hat := (Entails.of_eq (over_cells (F := F) fun k => atPos ER (kcell (c, k)) 0 ∅ 0)) $$ Hat
  simp only [kcell_send, kcell_recv]
  icases Hat with ⟨Hat, HaB⟩
  iexists K
  isplitr
  · isplitr; · iexact HR
    iexact Hl
  isplitl [Ht HaB HcB]
  · unfold enterTk tells
    icases Ht with ⟨H1, H2, H3, H4⟩
    isplitl [H1]; · iexact H1
    isplitl [H2]; · iexact H2
    isplitl [H3]; · iexact H3
    isplitl [H4]; · iexact H4
    isplitl [HaB]; · iexact HaB
    iexact HcB
  iapply (show iprop((bigSep Finset.univ fun q : Copy => stk q.1 q.2.1 q.2.2 c)
      ∗ (bigSep Finset.univ fun q : Copy => iprop(atPos ER (sendCell q.1 q.2.1 q.2.2 c) 0 ∅ 0 ∗ atPos ER (recvCell q.1 q.2.1 q.2.2 c) 0 ∅ 0))
      ∗ (bigSep Finset.univ fun q : Copy => cred (tallyAt (recvCell q.1 q.2.1 q.2.2 c) () (crd (lvl q.1)))))
      ⊢ (iprop(rights 0 c ∗ rights 1 c ∗ rights 2 c ∗ rights 3 c) : sProp 𝕄) from by
    rw [← bigSep_sep', ← bigSep_sep']
    refine (bigSep_mono fun q _ => ?_).trans (Entails.of_eq (over_copies fun p d s => iprop(stk p d s c ∗ wtk p d s c)))
    unfold wtk
    refine (show _ ⊢ (_ : sProp 𝕄) from ?_)
    iintro ⟨H1, ⟨H2, H3⟩, H4⟩
    isplitl [H1]; · iexact H1
    isplitl [H2]; · iexact H2
    isplitl [H3]; · iexact H3
    iexact H4)
  isplitl [Hst]; · iexact Hst
  isplitl [Hat]; · iexact Hat
  iexact Hc

end Cert.KernelIdeal.Moe
-- ==== Proof.KernelIdeal.Launch.lean ====
/-
The launch: every device's body from the memory it finds, and the state the run ends in.
-/
module

public import proofs.«01_k».proof.Proof.KernelIdeal.Deal
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.ValueKit
public import Idealize.ShloMosaic.Lib.Tactic

@[expose] public section

set_option maxRecDepth 16384

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The blocks that a device stages. -/
def inputs (c : Dev nD) : Staged F where
  x := (win0_0.blk (0 : Fin 1)).view.read (Elt F) (m ((c : Thread nD τ).loc main_arg0))
  i := (win0_1.blk (0 : Fin 1)).view.read (Elt F) (m ((c : Thread nD τ).loc main_arg2))
  w := (win0_2.blk (0 : Fin 1)).view.read (Elt F) (m ((c : Thread nD τ).loc main_arg3))

def begin (c : Dev nD) : sProp 𝕄 := iprop(∃ K, start₀ (inputs m) K c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m c).x
    | ⟨1, _⟩ => (inputs m c).i
    | ⟨2, _⟩ => (inputs m c).w
    | ⟨3, _⟩ => result (inputs m)
  Φ t := match t with
    | ⟨0, _⟩ => iprop(begin m c ∗ bufsAny c)
    | ⟨_ + 1, _⟩ => iprop(bufsAny c ∗ stop₀ c)
  q _ := fullShare
  owed t := match t with
    | ⟨0, _⟩ => debt4 c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with known contents. -/
abbrev held (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body -/

def bodyPre (c : Dev nD) : sProp 𝕄 :=
  iprop((begin m c ∗ bufsAny c) ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))

def bodyPost (c : Dev nD) : sProp 𝕄 :=
  iprop((bufsAny c ∗ stop₀ c) ∗ (dats m ρ 0 c).owesAt () t0_0.succ
    ∗ held c cc0_stg0_0 (inputs m c).x ∗ held c cc0_stg1_0 (inputs m c).i ∗ held c cc0_stg2_0 (inputs m c).w
    ∗ held c cc0_stg3_0 (result (inputs m)))

theorem before_x (c : Dev nD) (d) : (dats m ρ 0 c).before (0 : Fin 4) t0_0 d = (inputs m c).x := by
  unfold Dat.before; rw [if_pos (fetch0_0 t0_0)]; rfl
theorem before_i (c : Dev nD) (d) : (dats m ρ 0 c).before (1 : Fin 4) t0_0 d = (inputs m c).i := by
  unfold Dat.before; rw [if_pos (fetch0_1 t0_0)]; rfl
theorem before_w (c : Dev nD) (d) : (dats m ρ 0 c).before (2 : Fin 4) t0_0 d = (inputs m c).w := by
  unfold Dat.before; rw [if_pos (fetch0_2 t0_0)]; rfl

theorem sound_body (c : Dev nD) : bodyPre m ρ c ⊢ wp frame (wpE (defs₀ (F := F)) 𝒱₀ c none) Set.univ (prog (F := F)) (fun _ => bodyPost m ρ c) := by
  unfold prog
  rw [wp_deviceId]
  unfold bodyPre begin
  simp only [before_x, before_i, before_w]
  iintro ⟨⟨⟨%K, Hs⟩, Hb⟩, Ho, ⟨%_, %fx, %hx, Hx⟩, ⟨%_, %fi, %hi, Hi⟩, ⟨%_, %fw, %hw, Hw⟩, ⟨%_, %fo, -, Hout⟩⟩
  subst hx hi hw
  ihave Hb := (bufs_split (F := F) c) $$ Hb
  iapply (wp_bodyAt (inputs m) K (Q := fun _ => bodyPost m ρ c) c fo) $$ [Hs Ho Hx Hi Hw Hout Hb]
  · isplitl [Hs]; · iexact Hs
    isplitl [Ho]
    · unfold Dat.owesAt Pipeline.owesWithin
      rw [show (dats m ρ 0 c).owed t0_0.castSucc = debt4 c from rfl]
      icases Ho with ⟨%W, -, Ho⟩
      unfold ow
      iexists W; iexact Ho
    isplitl [Hx Hi Hw]
    · unfold inP
      isplitl [Hx]; · iexact Hx
      isplitl [Hi]; · iexact Hi
      iexact Hw
    isplitl [Hout]; · unfold outP; iexact Hout
    iexact Hb
  iintro ⟨Hz, Ho, Hin, Hout, Hb⟩
  unfold bodyPost inP outP
  icases Hin with ⟨Hx, Hi, Hw⟩
  isplitl [Hz Hb]
  · isplitl [Hb]; · iapply (bufs_join (F := F) c); iexact Hb
    iexact Hz
  isplitl [Ho]
  · unfold Dat.owesAt Pipeline.owesWithin
    rw [show (dats m ρ 0 c).owed t0_0.succ = 0 from rfl]
    unfold ow
    icases Ho with ⟨%W, Ho⟩
    iexists W
    isplitr; · (ipureintro; intro x _; exact Or.inl trivial)
    iexact Ho
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Hout

theorem body_obligation (c : Dev nD) : BodyObligation (dats (F := F) m ρ 0 c) (defs₀ (F := F)) 𝒱₀ () Set.univ := fun t => by
  rw [fin_N0 t, bigSep_W0, bigSep_W0]
  simp only [owns_whole_eq]
  show bodyPre m ρ c ⊢ wp frame (wpE (defs₀ (F := F)) 𝒱₀ c none) Set.univ
    (cc0_body (F := F) xM (Memref.isWhole_whole _) idxM (Memref.isWhole_whole _) wM (Memref.isWhole_whole _) outM (Memref.isWhole_whole _)
      bufP (Memref.isWhole_whole _) bufZ (Memref.isWhole_whole _) cc0_scratch2 cc0_scratch3 cc0_scratch4 cc0_scratch5 cc0_scratch6 cc0_scratch7 cc0_scratch8 cc0_scratch9)
    (fun _ => bodyPost m ρ c)
  rw [body_eq]
  exact sound_body m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

/-- At entry a device owes only arrivals and signals, all above the staging semaphores. -/
theorem debt4_pos (c : Dev nD) {g : GSem nD τ sig} {u : Unit} (h : 0 < debt4 c g u) : L g = {()} ∧ 0 < lv g () := by
  have hbar (e : Dev nD) : L (barCell e) = {()} ∧ 0 < lv (barCell e) () := ⟨L_tc _ _, Nat.one_pos⟩
  have hadd {O O' : CellTallies nD τ sig Unit} (h : 0 < (O + O') g u) : 0 < O g u ∨ 0 < O' g u := by
    rw [Pi.add_apply, Finsupp.add_apply] at h; omega
  have hsig {e : Dev nD} (h : 0 < (tallyAt (barCell e) () 1 : CellTallies nD τ sig Unit) g u) : L g = {()} ∧ 0 < lv g () := by
    rw [(Pipeline.tallyAt_pos h).1]; exact hbar e
  rcases hadd (O := debt3 c) h with h | h
  · rcases hadd (O := debt2 c) h with h | h
    · rcases hadd (O := debt1 c) h with h | h
      · rcases hadd (O := dues c 24) h with h | h
        · obtain ⟨j, -, hj, rfl⟩ := dues_pos c 24 le_rfl h
          exact ⟨L_tc _ _, by rw [lv_due c j hj]; omega⟩
        · exact hsig h
      · exact hsig h
    · exact hsig h
  · exact hsig h

theorem mayWait_stage (c : Dev nD) (q : DmaSem sig) (hq : q.val < 4) (O : CellTallies nD τ sig Unit) (hO : O = debt4 c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rw [(debt4_pos c hg).1]; exact Finset.mem_singleton_self _)
      (fun p hp => by
        rw [Finset.mem_singleton.mp hp]; dsimp only [lv]
        rw [if_neg fun h => absurd h.1 (by omega)])
      (fun g u hg => (debt4_pos c hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide) _ (by
      rcases t with ⟨_ | _, ht⟩
      · exact Or.inl rfl
      · exact Or.inr rfl)

/-- The array no device stages. -/
def kept (c : Dev nD) : sProp 𝕄 := (((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred debt4 c ∗ prngReg c (ρ c) ∗ G' (inputs m) c)
      ⊢ |={Set.univ}=> iprop(begin m c ∗ kept m c) := by
  rw [Pipeline.unscopedRestP_none, unscopedRest0_eq]
  iintro ⟨Hk, Hlev, Hcr, -, HG⟩
  imodintro
  isplitr [Hk]
  · unfold begin
    iapply (start_of (inputs m) c)
    isplitl [HG]; · iexact HG
    isplitl [Hlev]; · iexact Hlev
    iexact Hcr
  · unfold kept; iexact Hk

theorem phi0_intro (c : Dev nD) :
    iprop(begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begin m c ∗ bufsAny c) from rfl, scopedRest0_eq]
  iintro ⟨Hs, -, Hr⟩
  isplitl [Hs]; · iexact Hs
  unfold bufsAny; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bufsAny c ∗ stop₀ c) from rfl, scopedRest0_eq]
  iintro ⟨Hr, Hz⟩
  ihave Hz := (sems_out (F := F) c) $$ Hz
  icases Hz with ⟨HB, Ho⟩
  isplitl [HB]; · iexact HB
  isplitl [Ho]; · iexact Ho
  unfold bufsAny; iexact Hr

/-- At the end the unstaged array is read, and the barrier's counter. -/
theorem read_end (c : Dev nD) (s' : Phys nD τ sig (Elt F)) :
    iprop(unscopedSems0 c ∗ kept m c ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  unfold kept
  iintro ⟨Hu, Hk, HSI⟩
  icombine HSI Hk gives %hk
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hk⟩
  iexact HSI

/-! ## The run -/

/-- The result array of every device: the whole result, once. -/
theorem final_out (c : Dev nD) : (dats m ρ 0 c).arrAt (3 : Fin 4) cfg0.N = result (inputs m) := by
  refine (dats m ρ 0 c).arrAt_eq_of_after_last (3 : Fin 4) t0_0 (by decide +kernel) _ fun j => ?_
  rfl

def Post (r : PUnit × MemSt nD τ sig (Elt F)) : Prop := ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = result (inputs m)

set_option maxRecDepth 60000 in
/-- From any memory with zero counters every fair execution of the sixteen kernels terminates, with the arguments unchanged,
    every device's result array at the computed contents and every counter at zero. -/
theorem run_main : θ_run defs (onTc (τ := τ) (main (F := F))) (s₀ m ρ) (fun r => Post m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := debt4) (howed₀ := fun _ => rfl) (howedN := fun _ => rfl)
    (L := L) (lv := lv) (hL := L_of_ne) (hwaits := waits m ρ)
    (G := G (inputs m)) (G' := G' (inputs m)) (u₀ := u₀)
    (hu₀ := by
      unfold u₀
      iintro Hu
      ihave H := (ownU_pair _ _) $$ Hu
      icases H with ⟨HP, HX⟩
      imod (fund_all (inputs m)) $$ HX with HG
      imodintro
      isplitl [HP] <;> iassumption)
    (hglob := glob (inputs m))
    (hA := fun _ _ => rfl) (hpf := fun _ k => k.elim0)
    (X := begin m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨((h c).1 0).trans ((dats m ρ 0 c).arrAt_in (0 : Fin 4) rfl _), (h c).2.2.2,
      ((h c).1 1).trans ((dats m ρ 0 c).arrAt_in (1 : Fin 4) rfl _), ((h c).1 2).trans ((dats m ρ 0 c).arrAt_in (2 : Fin 4) rfl _),
      ((h c).1 3).trans (final_out m ρ c)⟩, sem_eq_zero hs fun c => (h c).2.2.1⟩)

end Cert.KernelIdeal.Moe
-- ==== Proof.Value.Rings.lean ====
/-
The rings' sums over the extended reals: the owner of an element adds up every device's contribution.
-/
module

public import proofs.«01_k».proof.Proof.KernelIdeal.Contents
public import Idealize.ShloMosaic.Lib.ValueIdx

@[expose] public section

set_option maxRecDepth 16384

noncomputable section

namespace Cert.KernelIdeal.Moe

open Cert.KernelIdeal Cert.KernelIdeal.Gen
open Idealize.ShloMosaic Idealize.ShloMosaic.TcCoe Idealize.SL.Sem

/-- A result's elements as extended reals. -/
abbrev elt (u : Out Ideal) : S2048x1024.Idx → EReal := u

/-- The device `n` steps back from `c` on a ring. -/
def stepsBack (l d : Fin 2) : ℕ → Dev nD → Dev nD
  | 0, c => c
  | n + 1, c => stepsBack l d n (src l d c)

/-- Three steps of a ring add up the four devices of it. -/
theorem ringSum_three (b : Dev nD → Out Ideal) (l d : Fin 2) (c : Dev nD) (x : S2048x1024.Idx) :
    elt (ringSum b l d 3 c) x = ∑ j : Fin 4, elt (b (stepsBack l d j.val c)) x := by
  rw [Fin.sum_univ_four]
  show elt (b c) x + (elt (b (src l d c)) x + (elt (b (src l d (src l d c))) x + elt (b (src l d (src l d (src l d c)))) x)) = _
  rw [← add_assoc, ← add_assoc]
  rfl

/-- Going back on one ring, then on the other, meets every device once. -/
theorem steps_bijective : ∀ (d : Fin 2) (c : Dev nD),
    Function.Bijective fun p : Fin 4 × Fin 4 => stepsBack 0 d p.2.val (stepsBack 1 d p.1.val c) := by
  decide +kernel

/-- So a sum over both rings is the sum over the devices. -/
theorem sum_rings (f : Dev nD → EReal) (d : Fin 2) (c : Dev nD) :
    ∑ j : Fin 4, ∑ k : Fin 4, f (stepsBack 0 d k.val (stepsBack 1 d j.val c)) = ∑ c', f c' := by
  rw [← Fintype.sum_prod_type' (f := fun a b : Fin 4 => f (stepsBack 0 d b.val (stepsBack 1 d a.val c)))]
  exact (steps_bijective d c).sum_comp f

variable (I : Dev nD → Staged Ideal)

theorem base_one (d : Fin 2) (c : Dev nD) : base I 1 d c = ringSum (part I) 0 d 3 c := if_neg (by decide)

/-- On the second ring a device starts from what the first left it: the sum of the devices of its first ring. -/
theorem base_one_apply (d : Fin 2) (x : S2048x1024.Idx) (c : Dev nD) :
    elt (base I 1 d c) x = ∑ k : Fin 4, elt (part I (stepsBack 0 d k.val c)) x := by
  rw [base_one, ringSum_three]

/-- A finished element is the sum of all devices' contributions. -/
theorem acc_three (d : Fin 2) (c : Dev nD) (x : S2048x1024.Idx) : elt (acc I 1 d 3 c) x = ∑ c', elt (part I c') x := by
  rw [← sum_rings (fun c' => elt (part I c') x) d c, acc, ringSum_three]
  exact Finset.sum_congr rfl fun j _ => base_one_apply I d x _

/-- So is every element of the result. -/
theorem result_apply (x : S2048x1024.Idx) : elt (result I) x = ∑ c', elt (part I c') x := by
  have h : result I x = acc I 1 ⟨col x / 512, by have := col_lt x; omega⟩ 3 (ownerOf ⟨col x / 512, by have := col_lt x; omega⟩ (row x / 512) (row x / 128 % 4)) x := rfl
  exact h.trans (acc_three I _ _ x)

end Cert.KernelIdeal.Moe
-- ==== Proof.Value.Share.lean ====
/-
The kernel's values over the extended reals: what one device contributes to an element.

Device `c` holds experts `4 * c` to `4 * c + 3`. Its contribution to row `n`, column `h` is, summed over its experts, the
row's inner product with the expert's column where the row is routed to the expert, and zero where it is not.
-/
module

public import proofs.«01_k».proof.Proof.Value.Rings
public import Idealize.ShloMosaic.Lib.ValueIdx
public import Idealize.ShloMosaic.Lib.Pointwise.Contract
public import Idealize.ShloMosaic.Lib.Pipeline.Value
public import Idealize.ShloMosaic.PureOps.Ideal.Laws

@[expose] public section

set_option maxRecDepth 16384

noncomputable section

namespace Cert.KernelIdeal.Moe

open Cert.KernelIdeal Cert.KernelIdeal.Gen
open Idealize.ShloMosaic Idealize.ShloMosaic.TcCoe Idealize.SL.Sem

/-- The masked rows: a row whose id is the expert's is kept, another row is zero. -/
theorem masked_apply (w : BitVec 32) (x : FVec Ideal S128x512 .f32) (i : IVec S128x1 32) (r : Fin 128) (k : Fin 512) :
    select (broadcastTo S128x512 (shapeCast S128x1 (cmpi .eq i (broadcast S128x1 w)) shapeCasts_S128x1_S128x1) broadcasts_S128x1_S128x512)
      x (broadcast S128x512 (Scalar.ofBits (F := Ideal) .f32 0x00000000#32)) (ix2 r k)
      = if i (ix2 r 0) = w then x (ix2 r k) else 0 := by
  rw [shapeCast_self]
  show Scalar.select (broadcastTo S128x512 (cmpi .eq i (broadcast S128x1 w)) broadcasts_S128x1_S128x512 (ix2 r k)) (x (ix2 r k)) (Ideal.ofBits .f32 0x00000000#32) = _
  rw [broadcastTo_apply (cmpi .eq i (broadcast S128x1 w)) broadcasts_S128x1_S128x512 (ix2 r k) (ix2 r 0) (by
    intro a; fin_cases a <;> rfl), Ideal.ofBits_zero_f32]
  show Scalar.select (Scalar.cmpi .eq (i (ix2 r 0)) w) _ _ = _
  by_cases h : i (ix2 r 0) = w
  · rw [if_pos h, h]; simp [Scalar.select, Scalar.cmpi, IntOp.cmpi]
  · rw [if_neg h]; simp [Scalar.select, Scalar.cmpi, IntOp.cmpi, beq_false_of_ne h]

/-- One expert's share of a chunk, at an element. -/
theorem term_apply (w : BitVec 32) (x : FVec Ideal S128x512 .f32) (i : IVec S128x1 32) (e : BitVec 32) (we : Vec Ideal S1x512x1024 .f32)
    (r : Fin 128) (h : Fin 1024) :
    term w x i e we (ix2 r h) = if i (ix2 r 0) = Scalar.addi (Scalar.muli w 4#32) e then ∑ k : Fin 512, x (ix2 r k) * we (ix3 0 k h) else 0 := by
  unfold term
  simp only [matmul]
  rw [Ideal.matmul_constant_zero_apply, DotDims.sum_contr₁ (d := dot_S128x512_S512x1024_S128x1024_1_0_0_1_n_n) (a := 1) rfl (K := 512) rfl]
  have hl : ∀ k : Fin 512, dot_S128x512_S512x1024_S128x1024_1_0_0_1_n_n.lhsIdx (ix2 r h) (DotDims.contrIdx₁ dot_S128x512_S512x1024_S128x1024_1_0_0_1_n_n (a := 1) rfl (K := 512) rfl k) = ix2 r k := by
    intro k; funext a; refine Fin.ext ?_; fin_cases a <;> rfl
  have hr : ∀ k : Fin 512, dot_S128x512_S512x1024_S128x1024_1_0_0_1_n_n.rhsIdx (ix2 r h) (DotDims.contrIdx₁ dot_S128x512_S512x1024_S128x1024_1_0_0_1_n_n (a := 1) rfl (K := 512) rfl k) = ix2 k h := by
    intro k; funext a; refine Fin.ext ?_; fin_cases a <;> rfl
  have hw : ∀ k : Fin 512, shapeCast S512x1024 we shapeCasts_S1x512x1024_S512x1024 (ix2 k h) = we (ix3 0 k h) := by
    intro k
    exact (shapeCast_dropUnit_apply ![512, 1024] we shapeCasts_S1x512x1024_S512x1024 (ix2 k h)).trans (congrArg we (by funext a; fin_cases a <;> rfl))
  simp only [hl, hr, hw, masked_apply]
  by_cases hi : i (ix2 r 0) = Scalar.addi (Scalar.muli w 4#32) e
  · simp only [if_pos hi]
  · simp only [if_neg hi, zero_mul, Finset.sum_const_zero]

/-- A chunk's value, at an element: its experts' shares summed. -/
theorem chunkVal_apply (w : BitVec 32) (x : Vec Ideal S128x512 .f32) (i : Vec Ideal S128x1 .i32) (we : Fin 4 → Vec Ideal S1x512x1024 .f32)
    (r : Fin 128) (h : Fin 1024) :
    chunkVal w x i (we 0) (we 1) (we 2) (we 3) (ix2 r h)
      = ∑ e : Fin 4, if i (ix2 r 0) = Scalar.addi (Scalar.muli w 4#32) (BitVec.ofNat 32 e.val) then ∑ k : Fin 512, x (ix2 r k) * we e (ix3 0 k h) else 0 := by
  unfold chunkVal
  rw [shapeCast_self, shapeCast_self, Fin.sum_univ_four]
  simp only [ValueIdx.addf_apply, term_apply]
  show Ideal.ofBits .f32 0x00000000#32 + _ + _ + _ + _ = _
  rw [Ideal.ofBits_zero_f32, zero_add]
  rfl

variable (I : Dev nD → Staged Ideal)

/-- The token rows and the experts' matrices of a device, as extended reals. -/
abbrev xs (c : Dev nD) : S2048x512.Idx → EReal := (I c).x
abbrev ws (c : Dev nD) : S4x512x1024.Idx → EReal := (I c).w

/-- What device `c` contributes to an element: its experts' shares summed. -/
theorem part_apply (c : Dev nD) (n : Fin 2048) (h : Fin 1024) :
    elt (part I c) (ix2 n h)
      = ∑ e : Fin 4, if (I c).i (ix2 n 0 : S2048x1.Idx) = Scalar.addi (Scalar.muli (devW c) 4#32) (BitVec.ofNat 32 e.val)
          then ∑ k : Fin 512, xs I c (ix2 n k) * ws I c (ix3 e k h) else (0 : EReal) := by
  have hn : n.val < 2048 := n.isLt
  have hc : inChunk (ix2 n h) = ix2 ⟨n.val % 128, Nat.mod_lt _ (by decide)⟩ h := by
    funext a; refine Fin.ext ?_; fin_cases a <;> rfl
  unfold elt part chunkAt
  rw [hc]
  refine (chunkVal_apply (devW c) _ _ (fun e => (wM : Memref sig .tc .vmem S4x512x1024 .f32).view.readAt (Elt Ideal) (wRect e (wRect_inb e)).toLoadRect (I c).w) _ _).trans ?_
  have hx : ∀ k : Fin 512, (xM : Memref sig .tc .vmem S2048x512 .f32).view.readAt (Elt Ideal) (Rect.unit (s := S2048x512) ![128 * (chunkOf (ix2 n h)).val, 0] S128x512.size (chunkX_inb _)).toLoadRect (I c).x (ix2 ⟨n.val % 128, Nat.mod_lt _ (by decide)⟩ k)
      = (I c).x (ix2 n k : S2048x512.Idx) := by
    intro k
    refine congrArg (I c).x (funext fun a => Fin.ext ?_)
    fin_cases a
    · show 128 * (n.val / 128) + 1 * (n.val % 128) = n.val; omega
    · show 0 + 1 * k.val = k.val; omega
  have hi : (idxM : Memref sig .tc .vmem S2048x1 .i32).view.readAt (Elt Ideal) (Rect.unit (s := S2048x1) ![128 * (chunkOf (ix2 n h)).val, 0] S128x1.size (chunkI_inb _)).toLoadRect (I c).i (ix2 ⟨n.val % 128, Nat.mod_lt _ (by decide)⟩ 0)
      = (I c).i (ix2 n 0 : S2048x1.Idx) := by
    refine congrArg (I c).i (funext fun a => Fin.ext ?_)
    fin_cases a
    · show 128 * (n.val / 128) + 1 * (n.val % 128) = n.val; omega
    · rfl
  have hw : ∀ (e : Fin 4) (k : Fin 512), (wM : Memref sig .tc .vmem S4x512x1024 .f32).view.readAt (Elt Ideal) (wRect e (wRect_inb e)).toLoadRect (I c).w (ix3 0 k h)
      = (I c).w (ix3 e k h : S4x512x1024.Idx) := by
    intro e k
    refine congrArg (I c).w (funext fun a => Fin.ext ?_)
    fin_cases a
    · show e.val + 1 * 0 = e.val; omega
    · show 0 + 1 * k.val = k.val; omega
    · show 0 + 1 * h.val = h.val; omega
  simp only [hx, hi, hw]

/-- The word an expert of a device is compared by is its number. -/
theorem expert_word : ∀ (c : Dev nD) (e : Fin 4), Scalar.addi (Scalar.muli (devW c) 4#32) (BitVec.ofNat 32 e.val) = BitVec.ofNat 32 (4 * c.val + e.val) := by
  decide +kernel

end Cert.KernelIdeal.Moe
-- ==== Proof.Value.Reference.lean ====
/-
The reference's value over the extended reals.

An element of the reference's result is the row's inner product with the expert's column where the row's id names one of
the 64 experts, and zero where it does not.
-/
module

public import proofs.«01_k».proof.Proof.Gen.ReferenceIdeal.Run
public import Idealize.ShloMosaic.Lib.ValueIdx
public import Idealize.ShloMosaic.Lib.Pointwise.Contract
public import Idealize.ShloMosaic.Lib.Pipeline.Value
public import Idealize.ShloMosaic.PureOps.Ideal.Laws

@[expose] public section

set_option maxRecDepth 16384

noncomputable section

namespace Cert.ReferenceIdeal.Moe

open Cert.ReferenceIdeal Cert.ReferenceIdeal.Gen
open Idealize.ShloMosaic Idealize.ShloMosaic.TcCoe Idealize.SL.Sem

/-! ## The ids -/

/-- The row number the reference takes for an id: the id clipped to the table, and a negative one counted from its end. -/
def taken (w : BitVec 32) : BitVec 32 :=
  Scalar.select (Scalar.cmpi .slt (Scalar.minsi 63#32 (Scalar.maxsi 0#32 w)) 0#32)
    (Scalar.addi (Scalar.minsi 63#32 (Scalar.maxsi 0#32 w)) 64#32) (Scalar.minsi 63#32 (Scalar.maxsi 0#32 w))

/-- The bit that says an id names an expert. -/
def valid (w : BitVec 32) : BitVec 1 := Scalar.andi (Scalar.cmpi .sge w 0#32) (Scalar.cmpi .slt w 64#32)

/-- An expert's number is taken as it is, and is valid. -/
theorem taken_expert : ∀ a : Fin 64, taken (BitVec.ofNat 32 a.val) = BitVec.ofNat 32 a.val := by decide +kernel
theorem valid_expert : ∀ a : Fin 64, valid (BitVec.ofNat 32 a.val) = 1#1 := by decide +kernel

/-- An id that is no expert's number is not valid. -/
theorem not_valid (w : BitVec 32) (h : ∀ a : Fin 64, w ≠ BitVec.ofNat 32 a.val) : valid w ≠ 1#1 := by
  have hw : ¬ w.toNat < 64 := fun hw => h ⟨w.toNat, hw⟩ (by simp)
  intro hv
  have h2 : w.toInt < 0 ∨ 64 ≤ w.toInt := by
    rw [BitVec.toInt_eq_toNat_cond]; have := w.isLt; split <;> omega
  rcases h2 with h2 | h2
  · have e : Scalar.cmpi .sge w 0#32 = 0#1 := by
      have : BitVec.sle 0#32 w = false := decide_eq_false (by show ¬ (0#32).toInt ≤ w.toInt; rw [show (0#32).toInt = 0 from rfl]; omega)
      show BitVec.ofBool (BitVec.sle 0#32 w) = 0#1
      rw [this]; rfl
    rw [valid, e] at hv; revert hv; generalize Scalar.cmpi .slt w 64#32 = b; revert b; decide
  · have e : Scalar.cmpi .slt w 64#32 = 0#1 := by
      have : BitVec.slt w 64#32 = false := decide_eq_false (by show ¬ w.toInt < (64#32).toInt; rw [show (64#32).toInt = 64 from rfl]; omega)
      show BitVec.ofBool (BitVec.slt w 64#32) = 0#1
      rw [this]; rfl
    rw [valid, e] at hv; revert hv; generalize Scalar.cmpi .sge w 0#32 = b; revert b; decide

/-! ## The table's rows -/

/-- Gathering the matrices: where an index names matrix `a`, the result there is that matrix. -/
theorem gather_apply (W : S64x512x1024.Idx → EReal) (idx : IVec S2048x1 32) (n : Fin 2048) (k : Fin 512) (h : Fin 1024) (a : Fin 64)
    (ha : idx (ix2 n 0) = BitVec.ofNat 32 a.val) :
    Host.gather gather_S64x512x1024_S2048x1_S2048x512x1024_12_0_n_n_0_1_15121024 W idx (ix3 n k h) = W (ix3 a k h) := by
  unfold Host.gather
  refine congrArg W (funext fun b => Fin.ext ?_)
  fin_cases b
  · have hs : gather_S64x512x1024_S2048x1_S2048x512x1024_12_0_n_n_0_1_15121024.siIdx (ix3 n k h) ⟨0, by decide⟩ = ix2 n 0 := by
      funext b; refine Fin.ext ?_; fin_cases b <;> rfl
    show min (idx (gather_S64x512x1024_S2048x1_S2048x512x1024_12_0_n_n_0_1_15121024.siIdx (ix3 n k h) ⟨0, by decide⟩)).toInt.toNat 63 + 0 + 0 = a.val
    rw [hs, ha]
    exact (by decide +kernel : ∀ a : Fin 64, min (BitVec.ofNat 32 a.val).toInt.toNat 63 + 0 + 0 = a.val) a
  · show 0 + 0 + k.val = k.val; omega
  · show 0 + 0 + h.val = h.val; omega

/-- A batched product of rows with matrices, at an element. -/
theorem dot_apply (x : S2048x512.Idx → EReal) (y : S2048x512x1024.Idx → EReal) (n : Fin 2048) (h : Fin 1024) :
    Host.dotGeneral (F := Ideal) (φ₁ := .f32) (φ₂ := .f32) dot_S2048x512_S2048x512x1024_S2048x1024_1_1_n_2_0_0 none x y (ix2 n h)
      = ∑ k : Fin 512, x (ix2 n k) * y (ix3 n k h) := by
  simp only [Host.dotGeneral]
  rw [Ideal.dotGeneral_apply, DotDims.sum_contr₁ (d := dot_S2048x512_S2048x512x1024_S2048x1024_1_1_n_2_0_0) (a := 1) rfl (K := 512) rfl]
  refine Finset.sum_congr rfl fun k _ => ?_
  have hl : dot_S2048x512_S2048x512x1024_S2048x1024_1_1_n_2_0_0.lhsIdx (ix2 n h) (DotDims.contrIdx₁ dot_S2048x512_S2048x512x1024_S2048x1024_1_1_n_2_0_0 (a := 1) rfl (K := 512) rfl k) = ix2 n k := by
    funext a; refine Fin.ext ?_; fin_cases a <;> rfl
  have hr : dot_S2048x512_S2048x512x1024_S2048x1024_1_1_n_2_0_0.rhsIdx (ix2 n h) (DotDims.contrIdx₁ dot_S2048x512_S2048x512x1024_S2048x1024_1_1_n_2_0_0 (a := 1) rfl (K := 512) rfl k) = ix3 n k h := by
    funext a; refine Fin.ext ?_; fin_cases a <;> rfl
  rw [hl, hr]

/-! ## The result -/

/-- The reference's result, of its four arguments' contents: the operations' composed term. -/
def value (x : S2048x512.Idx → EReal) (ids : S2048x1.Idx → BitVec 32) (W : S64x512x1024.Idx → EReal) : S2048x1024.Idx → EReal :=
  select (broadcastInDim S2048x1024 ![0, 1] bcast_S2048x1_S2048x1024_0_1 (broadcastInDim S2048x1 ![0] bcast_S2048_S2048x1_0
      fun j => valid (shapeCast S2048 ids shapeCasts_S2048x1_S2048 j)))
    (Host.dotGeneral (F := Ideal) (φ₁ := .f32) (φ₂ := .f32) dot_S2048x512_S2048x512x1024_S2048x1024_1_1_n_2_0_0 none x
      (Host.gather gather_S64x512x1024_S2048x1_S2048x512x1024_12_0_n_n_0_1_15121024 W (broadcastInDim S2048x1 ![0] bcast_S2048_S2048x1_0
        fun j => taken (shapeCast S2048 ids shapeCasts_S2048x1_S2048 j))))
    (fun _ => Ideal.ofBits .f32 0x00000000#32)

/-- A function of the ids, laid out as one column, at a row. -/
theorem column_apply {α : Type} (f : BitVec 32 → α) (ids : S2048x1.Idx → BitVec 32) (n : Fin 2048) :
    broadcastInDim S2048x1 ![0] bcast_S2048_S2048x1_0 (fun j => f (shapeCast S2048 ids shapeCasts_S2048x1_S2048 j)) (ix2 n 0) = f (ids (ix2 n 0)) := by
  rw [broadcastInDim_apply ![0] bcast_S2048_S2048x1_0 _ (ix2 n (0 : Fin 1)) (ValueIdx.ix1 n) (by intro a; fin_cases a; rfl)]
  refine congrArg f (shapeCast_apply ids shapeCasts_S2048x1_S2048 _ (ix2 n 0) ?_)
  rw [Shape.rowMajor_val_one, Shape.rowMajor_val_two]
  show n.val * 1 + 0 = n.val
  omega

/-- Where the row's id is expert `a`, an element of the result is the row's inner product with the expert's column. -/
theorem value_expert (x : S2048x512.Idx → EReal) (ids : S2048x1.Idx → BitVec 32) (W : S64x512x1024.Idx → EReal) (n : Fin 2048) (h : Fin 1024)
    (a : Fin 64) (ha : ids (ix2 n 0) = BitVec.ofNat 32 a.val) :
    value x ids W (ix2 n h) = ∑ k : Fin 512, x (ix2 n k) * W (ix3 a k h) := by
  have hg : ∀ k : Fin 512, Host.gather gather_S64x512x1024_S2048x1_S2048x512x1024_12_0_n_n_0_1_15121024 W (broadcastInDim S2048x1 ![0] bcast_S2048_S2048x1_0
        fun j => taken (shapeCast S2048 ids shapeCasts_S2048x1_S2048 j)) (ix3 n k h) = W (ix3 a k h) := fun k =>
    gather_apply W _ n k h a (by rw [column_apply taken, ha, taken_expert])
  unfold value
  rw [ValueIdx.select_apply, broadcastInDim_apply ![0, 1] bcast_S2048x1_S2048x1024_0_1 _ (ix2 n h) (ix2 n (0 : Fin 1)) (by intro a; fin_cases a <;> rfl),
    column_apply valid, ha, valid_expert, ValueIdx.select_one, dot_apply]
  simp only [hg]

/-- Where the row's id is no expert's number, an element of the result is zero. -/
theorem value_none (x : S2048x512.Idx → EReal) (ids : S2048x1.Idx → BitVec 32) (W : S64x512x1024.Idx → EReal) (n : Fin 2048) (h : Fin 1024)
    (hn : ∀ a : Fin 64, ids (ix2 n 0) ≠ BitVec.ofNat 32 a.val) : value x ids W (ix2 n h) = 0 := by
  unfold value
  rw [ValueIdx.select_apply, broadcastInDim_apply ![0, 1] bcast_S2048x1_S2048x1024_0_1 _ (ix2 n h) (ix2 n (0 : Fin 1)) (by intro a; fin_cases a <;> rfl),
    column_apply valid, ValueIdx.eq_zero_of_ne_one (not_valid _ hn), ValueIdx.select_zero, Ideal.ofBits_zero_f32]

/-- The reference's run: the result is its value of the arguments, the arguments are left as they were. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = value (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans rfl, (h c).2⟩) (Value.run m ρ)

end Cert.ReferenceIdeal.Moe
-- ==== Proof.Value.Agree.lean ====
/-
The kernel's result is the reference's.

The sum over the devices of the sum over each one's experts is a sum over the 64 experts of which at most one term, the
one of the expert the row's id names, is not zero.
-/
module

public import proofs.«01_k».proof.Proof.Value.Share
public import proofs.«01_k».proof.Proof.Value.Rings
public import proofs.«01_k».proof.Proof.Value.Reference
public import proofs.«01_k».proof.Proof.KernelIdeal.Launch
public import Idealize.ShloMosaic.Lib.Layout

@[expose] public section

set_option maxRecDepth 16384

noncomputable section

namespace Cert.Moe

open Idealize.ShloMosaic Idealize.ShloMosaic.TcCoe Idealize.SL.Sem
open Cert.KernelIdeal (nD τ sig S2048x512 S2048x1 S2048x1024 S4x512x1024)
open Cert.KernelIdeal.Moe (Staged result elt part xs ws inputs)
open Cert.ReferenceIdeal (S64x512x1024)

/-- The number of a device's expert among the 64. -/
def expertOf (c : Dev nD) (e : Fin 4) : Fin 64 := ⟨4 * c.val + e.val, by have : c.val < 16 := c.isLt; omega⟩

/-- A sum over the devices and their experts is the sum over the experts. -/
theorem sum_experts (g : Fin 64 → EReal) : ∑ c : Dev nD, ∑ e : Fin 4, g (expertOf c e) = ∑ a, g a := by
  have hb : Function.Bijective fun p : Dev nD × Fin 4 => expertOf p.1 p.2 := by
    constructor
    · rintro ⟨c, e⟩ ⟨c', e'⟩ h
      have h' : 4 * c.val + e.val = 4 * c'.val + e'.val := congrArg Fin.val h
      exact Prod.ext (Fin.ext (by show c.val = c'.val; omega)) (Fin.ext (by show e.val = e'.val; omega))
    · intro a
      exact ⟨(⟨a.val / 4, by show _ < 16; omega⟩, ⟨a.val % 4, by omega⟩), Fin.ext (by show 4 * (a.val / 4) + a.val % 4 = a.val; omega)⟩
  rw [← Fintype.sum_prod_type' (f := fun c e => g (expertOf c e))]
  exact hb.sum_comp g

theorem word_inj {a b : Fin 64} (h : BitVec.ofNat 32 a.val = BitVec.ofNat 32 b.val) : a = b := by
  have h' := congrArg BitVec.toNat h
  simp only [BitVec.toNat_ofNat] at h'
  exact Fin.ext (by omega)

/-- Where the devices hold the same rows and ids, and each its own experts of one table, the result is the
    reference's value of the rows, the ids and the table. -/
theorem result_eq (I : Dev nD → Staged Ideal) (x : S2048x512.Idx → EReal) (ids : S2048x1.Idx → BitVec 32) (W : S64x512x1024.Idx → EReal)
    (hx : ∀ c, xs I c = x) (hi : ∀ c, (I c).i = ids) (hw : ∀ c e k h, ws I c (ix3 e k h) = W (ix3 (expertOf c e) k h)) :
    elt (result I) = Cert.ReferenceIdeal.Moe.value x ids W := by
  funext j
  obtain ⟨n, h, rfl⟩ : ∃ (n : Fin 2048) (h : Fin 1024), j = ix2 n h := ⟨j 0, j 1, ValueIdx.eq_ix2 j⟩
  rw [Cert.KernelIdeal.Moe.result_apply]
  have hp : ∀ c, elt (part I c) (ix2 n h) = (∑ e : Fin 4, if ids (ix2 n 0) = BitVec.ofNat 32 (expertOf c e).val
      then ∑ k : Fin 512, x (ix2 n k) * W (ix3 (expertOf c e) k h) else 0 : EReal) := by
    intro c
    refine (Cert.KernelIdeal.Moe.part_apply I c n h).trans (Finset.sum_congr rfl fun e _ => ?_)
    rw [Cert.KernelIdeal.Moe.expert_word, hi]
    simp only [hx, hw]
    rfl
  simp only [hp]
  rw [sum_experts fun a => if ids (ix2 n 0) = BitVec.ofNat 32 a.val then ∑ k : Fin 512, x (ix2 n k) * W (ix3 a k h) else 0]
  by_cases ha : ∃ a : Fin 64, ids (ix2 n 0) = BitVec.ofNat 32 a.val
  · obtain ⟨a, ha⟩ := ha
    rw [Cert.ReferenceIdeal.Moe.value_expert x ids W n h a ha, Finset.sum_eq_single a (fun b _ hb => if_neg fun hb' => hb (word_inj (hb'.symm.trans ha))) (fun h => absurd (Finset.mem_univ _) h), if_pos ha]
  · have ha' : ∀ a : Fin 64, ids (ix2 n 0) ≠ BitVec.ofNat 32 a.val := fun a h => ha ⟨a, h⟩
    rw [Cert.ReferenceIdeal.Moe.value_none x ids W n h ha']
    exact Finset.sum_eq_zero fun a _ => if_neg (ha' a)

/-- The blocks a device's inputs are staged from are its whole arrays. -/
theorem inputs_x (m : (ℓ : Loc nD τ sig) → Buf (Elt Ideal) ℓ) (c : Dev nD) : (inputs m c).x = m ((c : Thread nD τ).loc Cert.KernelIdeal.main_arg0) := by
  refine funext fun j => congrArg (m ((c : Thread nD τ).loc Cert.KernelIdeal.main_arg0)) (funext fun a => Fin.ext ?_)
  fin_cases a
  · exact (Nat.zero_add _).trans (Nat.one_mul _)
  · exact (Nat.zero_add _).trans (Nat.one_mul _)

theorem inputs_i (m : (ℓ : Loc nD τ sig) → Buf (Elt Ideal) ℓ) (c : Dev nD) : (inputs m c).i = m ((c : Thread nD τ).loc Cert.KernelIdeal.main_arg2) := by
  refine funext fun j => congrArg (m ((c : Thread nD τ).loc Cert.KernelIdeal.main_arg2)) (funext fun a => Fin.ext ?_)
  fin_cases a
  · exact (Nat.zero_add _).trans (Nat.one_mul _)
  · exact (Nat.zero_add _).trans (Nat.one_mul _)

theorem inputs_w (m : (ℓ : Loc nD τ sig) → Buf (Elt Ideal) ℓ) (c : Dev nD) : (inputs m c).w = m ((c : Thread nD τ).loc Cert.KernelIdeal.main_arg3) := by
  refine funext fun j => congrArg (m ((c : Thread nD τ).loc Cert.KernelIdeal.main_arg3)) (funext fun a => Fin.ext ?_)
  fin_cases a
  · exact (Nat.zero_add _).trans (Nat.one_mul _)
  · exact (Nat.zero_add _).trans (Nat.one_mul _)
  · exact (Nat.zero_add _).trans (Nat.one_mul _)

/-- A device's block of the table of experts, at an element. -/
theorem block_expert (W : S64x512x1024.Idx → EReal) (c : Dev nD) (e : Fin 4) (k : Fin 512) (h : Fin 1024) :
    Layout.block ⟨3, ![4, 512, 1024]⟩ ⟨3, ![64, 512, 1024]⟩ 0 16 c W (by decide) (ix3 e k h) = W (ix3 (expertOf c e) k h) := by
  rw [Layout.block_apply]
  refine congrArg W (funext fun a => Fin.ext ?_)
  rw [Layout.Tiles.idx_val]
  fin_cases a
  · show c.val * 4 + e.val = 4 * c.val + e.val; omega
  · rfl
  · rfl

end Cert.Moe
-- ==== Proof.lean ====
module

public import proofs.«01_k».proof.Defs
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to completion on every device, leaves its arguments as they were and every counter at zero. -/
theorem frame_kernel : Cert.quiescent_Kernel := fun m g _ =>
  (θ_run Cert.Kernel.defs _ _).mono
    (fun _ h => ⟨fun c => ⟨(h.1 c).1, (h.1 c).2.1, (h.1 c).2.2.1, (h.1 c).2.2.2.1⟩, h.2⟩) (Cert.Kernel.Moe.run_main (F := Bits) m g)

/-- So does its twin over the extended reals. -/
theorem frame_kernelIdeal : Cert.quiescent_KernelIdeal := fun m g _ =>
  (θ_run Cert.KernelIdeal.defs _ _).mono
    (fun _ h => ⟨fun c => ⟨(h.1 c).1, (h.1 c).2.1, (h.1 c).2.2.1, (h.1 c).2.2.2.1⟩, h.2⟩) (Cert.KernelIdeal.Moe.run_main (F := Ideal) m g)

/-- So does the reference, which has no counters. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- From the same token rows and ids on every device, and each device's block of the table of experts, every device's
    result is the reference's. -/
theorem algebraic : Cert.algebraic_KernelIdeal_ReferenceIdeal := by
  intro m g m' g' _ hm
  refine ⟨Cert.ReferenceIdeal.Moe.value (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg2))
    (m' (((0 : Dev Cert.ReferenceIdeal.nD) : Thread Cert.ReferenceIdeal.nD Cert.ReferenceIdeal.τ).loc Cert.ReferenceIdeal.main_arg3)), ?_, ?_⟩
  · have hv := Cert.Moe.result_eq (Cert.KernelIdeal.Moe.inputs m) _ _ _
      (fun c => (Cert.Moe.inputs_x m c).trans (hm c).1) (fun c => (Cert.Moe.inputs_i m c).trans (hm c).2.2.1)
      (fun c e k h => (congrFun ((Cert.Moe.inputs_w m c).trans (hm c).2.2.2) (ix3 e k h)).trans (Cert.Moe.block_expert _ c e k h))
    exact (θ_run Cert.KernelIdeal.defs _ _).mono
      (fun _ h c => ⟨(h.1 c).2.2.2.2.trans hv, (h.1 c).1, (h.1 c).2.1, (h.1 c).2.2.1, (h.1 c).2.2.2.1⟩) (Cert.KernelIdeal.Moe.run_main (F := Ideal) m g)
  · exact (θ_run Cert.ReferenceIdeal.defs _ _).mono (fun _ h => h 0) (Cert.ReferenceIdeal.Moe.run_value m' g')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
